-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x16 : Shape := ⟨2, ![1024, 16]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S2x2048x1024 .f32) (main_arg1 : FVec F S1024x16 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S2x2048x1024 : Shape := ⟨3, ![2, 2048, 1024]⟩
abbrev S1024x16 : Shape := ⟨2, ![1024, 16]⟩
abbrev S2560 : Shape := ⟨1, ![2560]⟩
abbrev S1x2560 : Shape := ⟨2, ![1, 2560]⟩
abbrev S_ : Shape := ⟨0, ![]⟩
abbrev S16 : Shape := ⟨1, ![16]⟩
abbrev S16x1 : Shape := ⟨2, ![16, 1]⟩
abbrev S16x2560 : Shape := ⟨2, ![16, 2560]⟩
abbrev S8x2560 : Shape := ⟨2, ![8, 2560]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S2x2048x2560 : Shape := ⟨3, ![2, 2048, 2560]⟩
abbrev S1x1 : Shape := ⟨2, ![1, 1]⟩
abbrev S1x512x1024 : Shape := ⟨3, ![1, 512, 1024]⟩
abbrev S1x512x2560 : Shape := ⟨3, ![1, 512, 2560]⟩
abbrev S16x128 : Shape := ⟨2, ![16, 128]⟩
abbrev S512x1024 : Shape := ⟨2, ![512, 1024]⟩
abbrev S16x512 : Shape := ⟨2, ![16, 512]⟩
abbrev S512x2560 : Shape := ⟨2, ![512, 2560]⟩
abbrev S1x16x1 : Shape := ⟨3, ![1, 16, 1]⟩
abbrev S1 : Shape := ⟨1, ![1]⟩
abbrev S1x1x1 : Shape := ⟨3, ![1, 1, 1]⟩

abbrev nBuf : Space → Nat
  | .hbm => 62
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024x16, .f32⟩
  | .hbm, ⟨2, _⟩ => ⟨S2560, .i32⟩
  | .hbm, ⟨3, _⟩ => ⟨S1x2560, .i32⟩
  | .hbm, ⟨4, _⟩ => ⟨S_, .i32⟩
  | .hbm, ⟨5, _⟩ => ⟨S_, .i32⟩
  | .hbm, ⟨6, _⟩ => ⟨S1x2560, .i32⟩
  | .hbm, ⟨7, _⟩ => ⟨S1x2560, .i32⟩
  | .hbm, ⟨8, _⟩ => ⟨S1x2560, .i32⟩
  | .hbm, ⟨9, _⟩ => ⟨S_, .i32⟩
  | .hbm, ⟨10, _⟩ => ⟨S1x2560, .i32⟩
  | .hbm, ⟨11, _⟩ => ⟨S1x2560, .i1⟩
  | .hbm, ⟨12, _⟩ => ⟨S1x2560, .i32⟩
  | .hbm, ⟨13, _⟩ => ⟨S1x2560, .i32⟩
  | .hbm, ⟨14, _⟩ => ⟨S_, .i32⟩
  | .hbm, ⟨15, _⟩ => ⟨S1x2560, .i32⟩
  | .hbm, ⟨16, _⟩ => ⟨S1x2560, .i1⟩
  | .hbm, ⟨17, _⟩ => ⟨S1x2560, .i1⟩
  | .hbm, ⟨18, _⟩ => ⟨S_, .i32⟩
  | .hbm, ⟨19, _⟩ => ⟨S1x2560, .i32⟩
  | .hbm, ⟨20, _⟩ => ⟨S1x2560, .i32⟩
  | .hbm, ⟨21, _⟩ => ⟨S1x2560, .i32⟩
  | .hbm, ⟨22, _⟩ => ⟨S16, .i32⟩
  | .hbm, ⟨23, _⟩ => ⟨S16x1, .i32⟩
  | .hbm, ⟨24, _⟩ => ⟨S16x2560, .i32⟩
  | .hbm, ⟨25, _⟩ => ⟨S16x2560, .i32⟩
  | .hbm, ⟨26, _⟩ => ⟨S16x2560, .i1⟩
  | .hbm, ⟨27, _⟩ => ⟨S16x2560, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S2560, .i32⟩
  | .hbm, ⟨35, _⟩ => ⟨S2560, .i32⟩
  | .hbm, ⟨36, _⟩ => ⟨S_, .i32⟩
  | .hbm, ⟨37, _⟩ => ⟨S2560, .i32⟩
  | .hbm, ⟨38, _⟩ => ⟨S2560, .i1⟩
  | .hbm, ⟨39, _⟩ => ⟨S_, .i32⟩
  | .hbm, ⟨40, _⟩ => ⟨S2560, .i32⟩
  | .hbm, ⟨41, _⟩ => ⟨S2560, .i1⟩
  | .hbm, ⟨42, _⟩ => ⟨S_, .i32⟩
  | .hbm, ⟨43, _⟩ => ⟨S_, .i1⟩
  | .hbm, ⟨44, _⟩ => ⟨S2560, .i1⟩
  | .hbm, ⟨45, _⟩ => ⟨S2560, .i1⟩
  | .hbm, ⟨46, _⟩ => ⟨S2560, .i1⟩
  | .hbm, ⟨47, _⟩ => ⟨S2560, .i32⟩
  | .hbm, ⟨48, _⟩ => ⟨S2560, .i32⟩
  | .hbm, ⟨49, _⟩ => ⟨S2560, .i32⟩
  | .hbm, ⟨50, _⟩ => ⟨S2560, .f32⟩
  | .hbm, ⟨51, _⟩ => ⟨S8x2560, .f32⟩
  | .hbm, ⟨52, _⟩ => ⟨S512, .i32⟩
  | .hbm, ⟨53, _⟩ => ⟨S512x1, .i32⟩
  | .hbm, ⟨54, _⟩ => ⟨S1x512, .i32⟩
  | .hbm, ⟨55, _⟩ => ⟨S512x512, .i32⟩
  | .hbm, ⟨56, _⟩ => ⟨S512x512, .i32⟩
  | .hbm, ⟨57, _⟩ => ⟨S512x512, .i1⟩
  | .hbm, ⟨58, _⟩ => ⟨S512x512, .f32⟩
  | .hbm, ⟨59, _⟩ => ⟨S2x2048x2560, .f32⟩
  | .hbm, ⟨60, _⟩ => ⟨S2x2048x2560, .f32⟩
  | .hbm, ⟨61, _⟩ => ⟨S1x1, .f32⟩
  | .local _ .vmem, ⟨0, _⟩ => ⟨S1x512x1024, .f32⟩
  | .local _ .vmem, ⟨1, _⟩ => ⟨S1x512x1024, .f32⟩
  | .local _ .vmem, ⟨2, _⟩ => ⟨S1024x16, .f32⟩
  | .local _ .vmem, ⟨3, _⟩ => ⟨S16x2560, .f32⟩
  | .local _ .vmem, ⟨4, _⟩ => ⟨S8x2560, .f32⟩
  | .local _ .vmem, ⟨5, _⟩ => ⟨S512x512, .f32⟩
  | .local _ .vmem, ⟨6, _⟩ => ⟨S1x512x2560, .f32⟩
  | .local _ .vmem, ⟨7, _⟩ => ⟨S1x512x2560, .f32⟩
  | .local _ .vmem, ⟨8, _⟩ => ⟨S1x512x2560, .f32⟩
  | .local _ .vmem, ⟨9, _⟩ => ⟨S1x512x2560, .f32⟩
  | .local _ .vmem, ⟨10, _⟩ => ⟨S1x1, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19_0 : Ref sig .tc := ⟨.hbm, 59, rfl⟩
abbrev main_v19_1 : Ref sig .tc := ⟨.hbm, 60, rfl⟩
abbrev main_v19_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32_71 : BitVec 32 := 3#32
  let v288 : BitVec 1 := Scalar.cmpi .eq arg1 c3_i32_71
  let arg0 : BitVec 32 := BitVec.ofNat 32 (i 0).val
  let c1_i32_72 : BitVec 32 := 1#32
  let v289 : BitVec 1 := Scalar.cmpi .eq arg0 c1_i32_72
  let v290 : BitVec 1 := Scalar.andi v288 v289
  let v291 : BitVec 32 := Scalar.extui v290
  let c0_i32_73 : BitVec 32 := 0#32
  let v292 : BitVec 1 := Scalar.cmpi .ne v291 c0_i32_73
  v292

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S2x2048x1024 : Shape := ⟨3, ![2, 2048, 1024]⟩
abbrev S1024x16 : Shape := ⟨2, ![1024, 16]⟩
abbrev S2x2048x16 : Shape := ⟨3, ![2, 2048, 16]⟩
abbrev S_ : Shape := ⟨0, ![]⟩
abbrev S2x2048 : Shape := ⟨2, ![2, 2048]⟩
abbrev S2x2048x1 : Shape := ⟨3, ![2, 2048, 1]⟩
abbrev S2x2048x16x1 : Shape := ⟨4, ![2, 2048, 16, 1]⟩
abbrev S1 : Shape := ⟨1, ![1]⟩
abbrev S1x1x1x1 : Shape := ⟨4, ![1, 1, 1, 1]⟩
abbrev S16 : Shape := ⟨1, ![16]⟩
abbrev S1x1x16 : Shape := ⟨3, ![1, 1, 16]⟩
abbrev S1x1x160 : Shape := ⟨3, ![1, 1, 160]⟩
abbrev S2x2048x160 : Shape := ⟨3, ![2, 2048, 160]⟩
abbrev S2x2048x1x160 : Shape := ⟨4, ![2, 2048, 1, 160]⟩
abbrev S2x2048x16x160 : Shape := ⟨4, ![2, 2048, 16, 160]⟩
abbrev S2x16 : Shape := ⟨2, ![2, 16]⟩
abbrev S2x2048x2560 : Shape := ⟨3, ![2, 2048, 2560]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S2x2048x1024, .f32⟩
  | 1 => ⟨S1024x16, .f32⟩
  | 2 => ⟨S2x2048x16, .f32⟩
  | 3 => ⟨S_, .f32⟩
  | 4 => ⟨S2x2048, .f32⟩
  | 5 => ⟨S_, .f32⟩
  | 6 => ⟨S2x2048, .f32⟩
  | 7 => ⟨S2x2048, .f32⟩
  | 8 => ⟨S2x2048x1, .f32⟩
  | 9 => ⟨S2x2048x16, .f32⟩
  | 10 => ⟨S2x2048x16, .f32⟩
  | 11 => ⟨S2x2048x16, .f32⟩
  | 12 => ⟨S_, .f32⟩
  | 13 => ⟨S2x2048, .f32⟩
  | 14 => ⟨S2x2048x1, .f32⟩
  | 15 => ⟨S2x2048x16, .f32⟩
  | 16 => ⟨S2x2048x16, .f32⟩
  | 17 => ⟨S2x2048x16, .f32⟩
  | 18 => ⟨S2x2048x16, .i32⟩
  | 19 => ⟨S2x2048x16, .f32⟩
  | 20 => ⟨S2x2048x16, .i32⟩
  | 21 => ⟨S_, .i32⟩
  | 22 => ⟨S2x2048x16, .i32⟩
  | 23 => ⟨S2x2048x16, .i1⟩
  | 24 => ⟨S_, .i32⟩
  | 25 => ⟨S2x2048x16, .i32⟩
  | 26 => ⟨S2x2048x16, .i32⟩
  | 27 => ⟨S2x2048x16, .i32⟩
  | 28 => ⟨S2x2048x16x1, .i32⟩
  | 29 => ⟨S1, .i32⟩
  | 30 => ⟨S_, .i32⟩
  | 31 => ⟨S2x2048x16x1, .i32⟩
  | 32 => ⟨S2x2048x16x1, .i1⟩
  | 33 => ⟨S1x1x1x1, .i32⟩
  | 34 => ⟨S2x2048x16x1, .i32⟩
  | 35 => ⟨S2x2048x16x1, .i1⟩
  | 36 => ⟨S2x2048x16x1, .i1⟩
  | 37 => ⟨S_, .i1⟩
  | 38 => ⟨S2x2048x16, .i1⟩
  | 39 => ⟨S2x2048x16, .f32⟩
  | 40 => ⟨S_, .f32⟩
  | 41 => ⟨S2x2048x16, .f32⟩
  | 42 => ⟨S2x2048x16, .f32⟩
  | 43 => ⟨S_, .f32⟩
  | 44 => ⟨S_, .f32⟩
  | 45 => ⟨S2x2048x16, .f32⟩
  | 46 => ⟨S_, .f32⟩
  | 47 => ⟨S2x2048x16, .f32⟩
  | 48 => ⟨S2x2048x16, .i1⟩
  | 49 => ⟨S2x2048x16, .f32⟩
  | 50 => ⟨S2x2048x16, .i32⟩
  | 51 => ⟨S_, .f32⟩
  | 52 => ⟨S_, .i32⟩
  | 53 => ⟨S2x2048, .f32⟩
  | 54 => ⟨S2x2048, .i32⟩
  | 55 => ⟨S_, .i32⟩
  | 56 => ⟨S2x2048, .i32⟩
  | 57 => ⟨S2x2048, .i32⟩
  | 58 => ⟨S_, .i1⟩
  | 59 => ⟨S2x2048, .i1⟩
  | 60 => ⟨S2x2048, .i1⟩
  | 61 => ⟨S_, .i32⟩
  | 62 => ⟨S_, .i32⟩
  | 63 => ⟨S2x2048, .i32⟩
  | 64 => ⟨S2x2048, .i32⟩
  | 65 => ⟨S16, .i32⟩
  | 66 => ⟨S1x1x16, .i32⟩
  | 67 => ⟨S2x2048x1, .i32⟩
  | 68 => ⟨S2x2048x16, .i32⟩
  | 69 => ⟨S2x2048x16, .i32⟩
  | 70 => ⟨S2x2048x16, .i1⟩
  | 71 => ⟨S2x2048x16, .f32⟩
  | 72 => ⟨S2x2048x16, .f32⟩
  | 73 => ⟨S_, .f32⟩
  | 74 => ⟨S2x2048, .f32⟩
  | 75 => ⟨S2x2048x1, .f32⟩
  | 76 => ⟨S2x2048x16, .f32⟩
  | 77 => ⟨S2x2048x16, .f32⟩
  | 78 => ⟨S2x2048x16, .f32⟩
  | 79 => ⟨S2x2048x16, .i32⟩
  | 80 => ⟨S2x2048x16, .i32⟩
  | 81 => ⟨S2x2048x16, .i32⟩
  | 82 => ⟨S_, .i32⟩
  | 83 => ⟨S2x2048x16, .i32⟩
  | 84 => ⟨S2x2048x16, .i1⟩
  | 85 => ⟨S_, .i32⟩
  | 86 => ⟨S2x2048x16, .i32⟩
  | 87 => ⟨S2x2048x16, .i32⟩
  | 88 => ⟨S2x2048x16, .i32⟩
  | 89 => ⟨S2x2048x16x1, .i32⟩
  | 90 => ⟨S1, .i32⟩
  | 91 => ⟨S_, .i32⟩
  | 92 => ⟨S2x2048x16x1, .i32⟩
  | 93 => ⟨S2x2048x16x1, .i1⟩
  | 94 => ⟨S1x1x1x1, .i32⟩
  | 95 => ⟨S2x2048x16x1, .i32⟩
  | 96 => ⟨S2x2048x16x1, .i1⟩
  | 97 => ⟨S2x2048x16x1, .i1⟩
  | 98 => ⟨S_, .i1⟩
  | 99 => ⟨S2x2048x16, .i1⟩
  | 100 => ⟨S2x2048x16, .f32⟩
  | 101 => ⟨S_, .f32⟩
  | 102 => ⟨S2x2048x16, .f32⟩
  | 103 => ⟨S2x2048x16, .f32⟩
  | 104 => ⟨S_, .i32⟩
  | 105 => ⟨S2x2048x16, .i32⟩
  | 106 => ⟨S2x2048x16, .i1⟩
  | 107 => ⟨S_, .i32⟩
  | 108 => ⟨S2x2048x16, .i32⟩
  | 109 => ⟨S2x2048x16, .i32⟩
  | 110 => ⟨S2x2048x16, .i32⟩
  | 111 => ⟨S2x2048x16x1, .i32⟩
  | 112 => ⟨S1, .i32⟩
  | 113 => ⟨S_, .i32⟩
  | 114 => ⟨S2x2048x16x1, .i32⟩
  | 115 => ⟨S2x2048x16x1, .i1⟩
  | 116 => ⟨S1x1x1x1, .i32⟩
  | 117 => ⟨S2x2048x16x1, .i32⟩
  | 118 => ⟨S2x2048x16x1, .i1⟩
  | 119 => ⟨S2x2048x16x1, .i1⟩
  | 120 => ⟨S_, .i1⟩
  | 121 => ⟨S2x2048x16, .i1⟩
  | 122 => ⟨S2x2048x16, .f32⟩
  | 123 => ⟨S_, .f32⟩
  | 124 => ⟨S2x2048x16, .f32⟩
  | 125 => ⟨S2x2048x16, .f32⟩
  | 126 => ⟨S_, .f32⟩
  | 127 => ⟨S_, .f32⟩
  | _ => ⟨S2x2048x1024, .f32⟩

abbrev hbmTy0_1 (i : Nat) : BufTy := match i % 128 with
  | 0 => ⟨S2x2048x16, .f32⟩
  | 1 => ⟨S2x2048x16, .f32⟩
  | 2 => ⟨S2x2048x16, .f32⟩
  | 3 => ⟨S_, .f32⟩
  | 4 => ⟨S2x2048x16, .f32⟩
  | 5 => ⟨S2x2048x16, .i1⟩
  | 6 => ⟨S2x2048x16, .f32⟩
  | 7 => ⟨S2x2048x16, .f32⟩
  | 8 => ⟨S2x2048x16, .f32⟩
  | 9 => ⟨S_, .f32⟩
  | 10 => ⟨S2x2048, .f32⟩
  | 11 => ⟨S2x2048, .i32⟩
  | 12 => ⟨S_, .f32⟩
  | 13 => ⟨S2x2048x16, .f32⟩
  | 14 => ⟨S2x2048x16, .i1⟩
  | 15 => ⟨S2x2048x1, .i32⟩
  | 16 => ⟨S_, .i32⟩
  | 17 => ⟨S2x2048x1, .i32⟩
  | 18 => ⟨S2x2048x1, .i1⟩
  | 19 => ⟨S2x2048x16, .i1⟩
  | 20 => ⟨S2x2048x16, .i1⟩
  | 21 => ⟨S2x2048x1, .i32⟩
  | 22 => ⟨S1x1x160, .i32⟩
  | 23 => ⟨S2x2048x160, .i32⟩
  | 24 => ⟨S2x2048x160, .i32⟩
  | 25 => ⟨S2x2048x160, .i1⟩
  | 26 => ⟨S2x2048x160, .f32⟩
  | 27 => ⟨S2x2048x16, .f32⟩
  | 28 => ⟨S2x2048x16x1, .f32⟩
  | 29 => ⟨S2x2048x1x160, .f32⟩
  | 30 => ⟨S2x2048x16x160, .f32⟩
  | 31 => ⟨S2x2048x16x160, .f32⟩
  | 32 => ⟨S2x2048x16x160, .f32⟩
  | 33 => ⟨S2x2048x16x1, .f32⟩
  | 34 => ⟨S2x2048x16x160, .f32⟩
  | 35 => ⟨S2x2048x16x160, .f32⟩
  | 36 => ⟨S_, .f32⟩
  | 37 => ⟨S2x16, .f32⟩
  | 38 => ⟨S_, .f32⟩
  | 39 => ⟨S2x16, .f32⟩
  | 40 => ⟨S2x16, .f32⟩
  | 41 => ⟨S_, .f32⟩
  | 42 => ⟨S2x16, .f32⟩
  | 43 => ⟨S_, .f32⟩
  | 44 => ⟨S2x16, .f32⟩
  | 45 => ⟨S2x16, .f32⟩
  | 46 => ⟨S2x16, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S2x2048, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S2x2048x2560, .f32⟩
  | 62 => ⟨S2x2048x2560, .f32⟩
  | 63 => ⟨S1x1, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1_0 : Ref sig .tc := ⟨.hbm, 19, rfl⟩
abbrev main_v13 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v14 : Ref sig .tc := ⟨.hbm, 42, rfl⟩
abbrev main_call2_call0_cst : Ref sig .tc := ⟨.hbm, 43, rfl⟩
abbrev main_call2_call0_v0 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call3_v0 : Ref sig .tc := ⟨.hbm, 50, rfl⟩
abbrev main_call3_cst : Ref sig .tc := ⟨.hbm, 51, rfl⟩
abbrev main_call3_c : Ref sig .tc := ⟨.hbm, 52, rfl⟩
abbrev main_call3_v1_0 : Ref sig .tc := ⟨.hbm, 53, rfl⟩
abbrev main_v19 : Ref sig .tc := ⟨.hbm, 54, rfl⟩
abbrev main_c : Ref sig .tc := ⟨.hbm, 55, rfl⟩
abbrev main_v20 : Ref sig .tc := ⟨.hbm, 56, rfl⟩
abbrev main_v21 : Ref sig .tc := ⟨.hbm, 57, rfl⟩
abbrev main_c_3 : Ref sig .tc := ⟨.hbm, 58, rfl⟩
abbrev main_v22 : Ref sig .tc := ⟨.hbm, 59, rfl⟩
abbrev main_v23 : Ref sig .tc := ⟨.hbm, 60, rfl⟩
abbrev main_c_4 : Ref sig .tc := ⟨.hbm, 61, rfl⟩
abbrev main_call4_v0 : Ref sig .tc := ⟨.hbm, 62, rfl⟩
abbrev main_call4_v1 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_5 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call5_v0 : Ref sig .tc := ⟨.hbm, 79, rfl⟩
abbrev main_call5_v1_0 : Ref sig .tc := ⟨.hbm, 80, rfl⟩
abbrev main_v38 : Ref sig .tc := ⟨.hbm, 81, rfl⟩
abbrev main_call6_c : Ref sig .tc := ⟨.hbm, 82, rfl⟩
abbrev main_call6_v0 : Ref sig .tc := ⟨.hbm, 83, rfl⟩
abbrev main_call6_v1 : Ref sig .tc := ⟨.hbm, 84, rfl⟩
abbrev main_call6_c_0 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_c_1 : Ref sig .tc := ⟨.hbm, 90, rfl⟩
abbrev main_call6_c_2 : Ref sig .tc := ⟨.hbm, 91, rfl⟩
abbrev main_call6_v6 : Ref sig .tc := ⟨.hbm, 92, rfl⟩
abbrev main_call6_v7 : Ref sig .tc := ⟨.hbm, 93, rfl⟩
abbrev main_call6_v8 : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_c_3 : Ref sig .tc := ⟨.hbm, 98, rfl⟩
abbrev main_call6_v12 : Ref sig .tc := ⟨.hbm, 99, rfl⟩
abbrev main_call6_v13 : Ref sig .tc := ⟨.hbm, 100, rfl⟩
abbrev main_call6_cst : Ref sig .tc := ⟨.hbm, 101, rfl⟩
abbrev main_call6_v14 : Ref sig .tc := ⟨.hbm, 102, rfl⟩
abbrev main_v39 : Ref sig .tc := ⟨.hbm, 103, rfl⟩
abbrev main_call7_c : Ref sig .tc := ⟨.hbm, 104, rfl⟩
abbrev main_call7_v0 : Ref sig .tc := ⟨.hbm, 105, rfl⟩
abbrev main_call7_v1 : Ref sig .tc := ⟨.hbm, 106, rfl⟩
abbrev main_call7_c_0 : Ref sig .tc := ⟨.hbm, 107, rfl⟩
abbrev main_call7_v2 : Ref sig .tc := ⟨.hbm, 108, rfl⟩
abbrev main_call7_v3 : Ref sig .tc := ⟨.hbm, 109, rfl⟩
abbrev main_call7_v4 : Ref sig .tc := ⟨.hbm, 110, rfl⟩
abbrev main_call7_v5 : Ref sig .tc := ⟨.hbm, 111, rfl⟩
abbrev main_call7_c_1 : Ref sig .tc := ⟨.hbm, 112, rfl⟩
abbrev main_call7_c_2 : Ref sig .tc := ⟨.hbm, 113, rfl⟩
abbrev main_call7_v6 : Ref sig .tc := ⟨.hbm, 114, rfl⟩
abbrev main_call7_v7 : Ref sig .tc := ⟨.hbm, 115, rfl⟩
abbrev main_call7_v8 : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_c_3 : Ref sig .tc := ⟨.hbm, 120, rfl⟩
abbrev main_call7_v12 : Ref sig .tc := ⟨.hbm, 121, rfl⟩
abbrev main_call7_v13 : Ref sig .tc := ⟨.hbm, 122, rfl⟩
abbrev main_call7_cst : Ref sig .tc := ⟨.hbm, 123, rfl⟩
abbrev main_call7_v14 : Ref sig .tc := ⟨.hbm, 124, rfl⟩
abbrev main_v40 : Ref sig .tc := ⟨.hbm, 125, rfl⟩
abbrev main_call8_call0_cst : Ref sig .tc := ⟨.hbm, 126, rfl⟩
abbrev main_call8_call0_v0 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_cst_6 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_cst_7 : Ref sig .tc := ⟨.hbm, 137, rfl⟩
abbrev main_v49 : Ref sig .tc := ⟨.hbm, 138, rfl⟩
abbrev main_v50 : Ref sig .tc := ⟨.hbm, 139, rfl⟩
abbrev main_cst_8 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_c_9 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_call9_v0 : Ref sig .tc := ⟨.hbm, 149, rfl⟩
abbrev main_call9_v1 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_cst_10 : Ref sig .tc := ⟨.hbm, 164, rfl⟩
abbrev main_v68 : Ref sig .tc := ⟨.hbm, 165, rfl⟩
abbrev main_cst_11 : Ref sig .tc := ⟨.hbm, 166, rfl⟩
abbrev main_v69 : Ref sig .tc := ⟨.hbm, 167, rfl⟩
abbrev main_v70 : Ref sig .tc := ⟨.hbm, 168, rfl⟩
abbrev main_cst_12 : Ref sig .tc := ⟨.hbm, 169, rfl⟩
abbrev main_v71 : Ref sig .tc := ⟨.hbm, 170, rfl⟩
abbrev main_cst_13 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_cst_14 : Ref sig .tc := ⟨.hbm, 175, rfl⟩
abbrev main_v75 : Ref sig .tc := ⟨.hbm, 176, rfl⟩
abbrev main_cst_15 : Ref sig .tc := ⟨.hbm, 177, rfl⟩
abbrev main_v76 : Ref sig .tc := ⟨.hbm, 178, rfl⟩
abbrev main_cst_16 : Ref sig .tc := ⟨.hbm, 179, rfl⟩
abbrev main_v77 : Ref sig .tc := ⟨.hbm, 180, rfl⟩
abbrev main_v78 : Ref sig .tc := ⟨.hbm, 181, rfl⟩
abbrev main_cst_17 : Ref sig .tc := ⟨.hbm, 182, rfl⟩
abbrev main_v79 : Ref sig .tc := ⟨.hbm, 183, rfl⟩
abbrev main_cst_18 : Ref sig .tc := ⟨.hbm, 184, rfl⟩
abbrev main_v80 : Ref sig .tc := ⟨.hbm, 185, rfl⟩
abbrev main_cst_19 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩

abbrev nD : Nat := 1
abbrev τ : Topo := Topo.v7x

variable {F : FTy → Type} [FloatOps F]
-- ==== Proof.Ranking.lean ====
module

public import Idealize.ShloMosaic.Lib.SortFacts
public import Idealize.ShloMosaic.Lib.SortPrefix
public import Mathlib.Data.Real.Basic
public import Mathlib.Algebra.BigOperators.Fin
public import Mathlib.Algebra.Order.BigOperators.Group.Finset
public import Mathlib.Order.WellFounded

@[expose] public section

/-! # Top-p selection by ranking and by sorting

One token's sixteen gate values `p`. The reference sorts them in descending order and cuts the sorted list after the
first prefix sum that reaches the threshold; the kernel adds, per expert, the gates of the experts that beat it. These are
the same selection. -/

noncomputable section

namespace Cert.Moe

open Idealize.ShloMosaic

/-- Expert `j` comes before expert `e` in the stable descending order: a larger gate, or an equal one at a smaller index. -/
def beats (p : Fin 16 → ℝ) (j e : Fin 16) : Prop := p e < p j ∨ (p j = p e ∧ j < e)

open Classical in
/-- The sum of the gates that come before expert `e`. -/
def before (p : Fin 16 → ℝ) (e : Fin 16) : ℝ := ∑ j, if beats p j e then p j else 0

/-- Expert `e` is selected at threshold `c`: what comes before it has not reached `c`. -/
def Sel (c : ℝ) (p : Fin 16 → ℝ) (e : Fin 16) : Prop := before p e < c

/-- Of two experts at most one beats the other. -/
theorem beats_asymm {p : Fin 16 → ℝ} {j e : Fin 16} (h : beats p j e) : ¬ beats p e j := by
  rintro (h' | ⟨h', h''⟩) <;> rcases h with h | ⟨h, h2⟩
  · exact lt_asymm h h'
  · exact absurd h (ne_of_lt h')
  · exact absurd h' (ne_of_lt h)
  · exact lt_asymm h2 h''

/-- Of two different experts one beats the other. -/
theorem beats_total {p : Fin 16 → ℝ} {j e : Fin 16} (h : j ≠ e) : beats p j e ∨ beats p e j := by
  rcases lt_trichotomy (p j) (p e) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- Beating is transitive. -/
theorem beats_trans {p : Fin 16 → ℝ} {a b c : Fin 16} (h : beats p a b) (h' : beats p b c) : beats p a c := by
  rcases h with h | ⟨h, h2⟩ <;> rcases h' with h' | ⟨h', h3⟩
  · exact Or.inl (h'.trans h)
  · exact Or.inl (h' ▸ h)
  · exact Or.inl (h ▸ h')
  · exact Or.inr ⟨h.trans h', h2.trans h3⟩

/-- Inserting an element in front of a list of later positions: comparing by the gate alone decides as `beats` does. -/
theorem stableSort_stable {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The stable sort by a relation is the sort by any relation that agrees with it where the first argument is the later
    position. -/
theorem sortedFrom_stable {n : ℕ} (R R' : Fin n → Fin n → Bool) (h : ∀ a b, a < b → R b a = R' b a) :
    sortedFrom R = sortedFrom R' := by
  funext k
  unfold sortedFrom
  have : sortPositions n R = sortPositions n R' := stableSort_stable R R' _ (List.pairwise_lt_finRange n) h
  rw [List.get_of_eq this]
  rfl

section order
variable {p : Fin 16 → ℝ} {R : Fin 16 → Fin 16 → Bool} (hR : ∀ k k', R k k' = true ↔ p k' < p k)
include hR

open Classical in
/-- The stable descending sort puts expert `a` before expert `b` exactly when `a` beats `b`. -/
theorem sorted_beats {r r' : Fin 16} (h : r < r') : beats p (sortedFrom R r) (sortedFrom R r') := by
  have e : sortedFrom R = sortedFrom (fun k k' => decide (beats p k k')) := by
    refine sortedFrom_stable _ _ fun a b hab => ?_
    rw [Bool.eq_iff_iff, hR, decide_eq_true_iff]
    refine ⟨Or.inl, ?_⟩
    rintro (h | ⟨-, h⟩)
    · exact h
    · exact absurd h (lt_asymm hab)
  have hne : sortedFrom R r ≠ sortedFrom R r' := fun hc => (ne_of_lt h) (sortedFrom_injective R hc)
  rw [e] at hne ⊢
  have hni := sortedFrom_noInversion (fun k k' => decide (beats p k k')) (fun k k' => decide (beats p k k'))
    (fun a b hab => by simpa using beats_asymm (by simpa using hab)) (fun _ _ hab => hab)
    (fun a b c hab hbc => by
      simp only [decide_eq_false_iff_not] at hab hbc ⊢
      intro hac
      by_cases h1 : a = b
      · exact hbc (h1 ▸ hac)
      · rcases beats_total h1 with h2 | h2
        · exact hab h2
        · exact hbc (beats_trans h2 hac)) r r' h
  rcases beats_total hne with h2 | h2
  · exact h2
  · exact absurd h2 (by simpa using hni)

/-- In the sorted order the earlier rank beats the later, and only it. -/
theorem sorted_beats_iff (r r' : Fin 16) : beats p (sortedFrom R r) (sortedFrom R r') ↔ r < r' := by
  refine ⟨fun h => ?_, sorted_beats hR⟩
  by_contra hc
  rcases eq_or_lt_of_le (not_lt.mp hc) with h1 | h1
  · rw [h1] at h; exact beats_asymm h h
  · exact beats_asymm h (sorted_beats hR h1)

omit hR in
/-- Reindexing a sum by the sort's permutation changes nothing. -/
theorem sum_sorted {M : Type} [AddCommMonoid M] (R : Fin 16 → Fin 16 → Bool) (f : Fin 16 → M) :
    ∑ r, f (sortedFrom R r) = ∑ e, f e :=
  Function.Bijective.sum_comp ⟨sortedFrom_injective R, sortedFrom_surjective R⟩ f

/-- The gates before the expert at rank `r` are those at the smaller ranks. -/
theorem before_sorted (r : Fin 16) :
    before p (sortedFrom R r) = ∑ r', if r' < r then p (sortedFrom R r') else 0 := by
  classical
  unfold before
  rw [← sum_sorted R]
  refine Finset.sum_congr rfl fun r' _ => ?_
  simp only [sorted_beats_iff hR]

end order

/-- Sorting the ranks' experts in increasing order inverts the sort. -/
theorem inverse_sorted {σ : Fin 16 → Fin 16} (hσ : Function.Injective σ) {Q : Fin 16 → Fin 16 → Bool}
    (hQ : ∀ k k', Q k k' = true ↔ σ k < σ k') (e : Fin 16) : σ (sortedFrom Q e) = e := by
  have hmono : StrictMono fun e => σ (sortedFrom Q e) := by
    intro a b hab
    have h := sortedFrom_noInversion Q Q
      (fun a b hab => by
        have := (hQ a b).mp hab
        rw [Bool.eq_false_iff, ne_eq, hQ]
        exact lt_asymm this)
      (fun _ _ h => h)
      (fun a b c hab hbc => by
        rw [Bool.eq_false_iff, ne_eq, hQ, not_lt] at hab hbc ⊢
        exact hbc.trans hab) a b hab
    rw [Bool.eq_false_iff, ne_eq, hQ, not_lt] at h
    exact lt_of_le_of_ne h fun hc => (ne_of_lt hab) (sortedFrom_injective Q (hσ hc))
  exact le_antisymm hmono.apply_le hmono.le_apply

/-- Where the reference cuts: `k` is one past the first rank whose prefix sum reaches `c`, or 16 where none does. The ranks
    below `k` are those whose preceding gates have not reached `c`. -/
theorem cut_iff {q : Fin 16 → ℝ} (hq : ∀ r, 0 ≤ q r) {c : ℝ} (hc : 0 < c) {k : ℕ}
    (hk : (∃ f : Fin 16, k = f + 1 ∧ c ≤ (∑ r', if r' ≤ f then q r' else 0)
            ∧ ∀ g : Fin 16, g < f → (∑ r', if r' ≤ g then q r' else 0) < c)
        ∨ (k = 16 ∧ ∀ g : Fin 16, (∑ r', if r' ≤ g then q r' else 0) < c)) (r : Fin 16) :
    (r : ℕ) < k ↔ (∑ r', if r' < r then q r' else 0) < c := by
  have mono : ∀ f : Fin 16, f < r → (∑ r', if r' ≤ f then q r' else 0) ≤ ∑ r', if r' < r then q r' else 0 := by
    intro f hf
    refine Finset.sum_le_sum fun r' _ => ?_
    split_ifs with h1 h2 h2
    · exact le_rfl
    · exact absurd (lt_of_le_of_lt h1 hf) h2
    · exact hq r'
    · exact le_rfl
  have below : (∀ g : Fin 16, g < r → (∑ r', if r' ≤ g then q r' else 0) < c) →
      (∑ r', if r' < r then q r' else 0) < c := by
    intro h
    by_cases h0 : (r : ℕ) = 0
    · have : ∀ r' : Fin 16, ¬ r' < r := fun r' h => by have := Fin.lt_def.mp h; omega
      simpa [this] using hc
    · have hlt : (⟨(r : ℕ) - 1, by omega⟩ : Fin 16) < r := by rw [Fin.lt_def]; simp; omega
      have := h _ hlt
      refine lt_of_eq_of_lt (Finset.sum_congr rfl fun r' _ => ?_) this
      have : r' < r ↔ r' ≤ (⟨(r : ℕ) - 1, by omega⟩ : Fin 16) := by
        rw [Fin.lt_def, Fin.le_def]; simp; omega
      simp only [this]
  rcases hk with ⟨f, rfl, hf, hg⟩ | ⟨rfl, hg⟩
  · constructor
    · intro h
      exact below fun g hgr => hg g (by rw [Fin.lt_def] at hgr ⊢; omega)
    · intro h
      by_contra hcon
      have : f < r := by rw [Fin.lt_def]; omega
      exact absurd (lt_of_le_of_lt (hf.trans (mono f this)) h) (lt_irrefl _)
  · exact ⟨fun _ => below fun g _ => hg g, fun _ => r.isLt⟩

end Cert.Moe

end
-- ==== Proof.Arith.lean ====
module

public import proofs.«01_k».proof.Proof.Ranking
public import Idealize.ShloMosaic.Lib.Pointwise
public import Idealize.ShloMosaic.Lib.IdealHost

@[expose] public section

set_option maxRecDepth 16384

/-! # The exact arithmetic on finite values

The constants both programs print, the operations on real values inside the extended reals, the gate of one token, and
the scalar forms the kernel and the reference print for a comparison. -/

noncomputable section

namespace Cert.Moe

open Idealize.ShloMosaic

/-- The selection threshold, the value of the constant printed for 0.8. -/
def c8 : ℝ := 13421773 / 16777216

/-- The threshold is positive. -/
theorem c8_pos : 0 < c8 := by norm_num [c8]

/-- The word of the threshold, as a real number. -/
theorem ofBits_c8 : Ideal.ofBits .f32 0x3F4CCCCD#32 = ((c8 : ℝ) : EReal) := by
  simp [Ideal.ofBits, Ideal.ieee, -EReal.coe_mul, c8]; norm_num

/-- The word of the capacity, 160. -/
theorem ofBits_cap : Ideal.ofBits .f32 0x43200000#32 = ((160 : ℝ) : EReal) := by
  simp [Ideal.ofBits, Ideal.ieee, -EReal.coe_mul]; norm_num

/-- The word of minus infinity. -/
theorem ofBits_negInf : Ideal.ofBits .f32 0xFF800000#32 = ⊥ := by
  simp [Ideal.ofBits, Ideal.ieee]

/-- The word of the kernel's loss factor, 1/524288. -/
theorem ofBits_scale : Ideal.ofBits .f32 0x36000000#32 = ((1 / 524288 : ℝ) : EReal) := by
  simp [Ideal.ofBits, Ideal.ieee, -EReal.coe_mul]; norm_num

/-- The word of 2048. -/
theorem ofBits_2048 : Ideal.ofBits .f32 0x45000000#32 = ((2048 : ℝ) : EReal) := by
  simp [Ideal.ofBits, Ideal.ieee, -EReal.coe_mul]; norm_num

/-- The word of 4096. -/
theorem ofBits_4096 : Ideal.ofBits .f32 0x45800000#32 = ((4096 : ℝ) : EReal) := by
  simp [Ideal.ofBits, Ideal.ieee, -EReal.coe_mul]; norm_num

/-- The word of 32. -/
theorem ofBits_32 : Ideal.ofBits .f32 0x42000000#32 = ((32 : ℝ) : EReal) := by
  simp [Ideal.ofBits, Ideal.ieee, -EReal.coe_mul]; norm_num

/-- The word of 256. -/
theorem ofBits_256 : Ideal.ofBits .f32 0x43800000#32 = ((256 : ℝ) : EReal) := by
  simp [Ideal.ofBits, Ideal.ieee, -EReal.coe_mul]; norm_num

/-- A finite sum of real values, inside the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division by a nonzero real. -/
theorem div_coe (a b : ℝ) (h : b ≠ 0) : Ideal.div (a : EReal) (b : EReal) = ((a / b : ℝ) : EReal) := by
  unfold Ideal.div
  rw [if_neg (by exact_mod_cast h), EReal.coe_div, div_eq_mul_inv]

/-- The largest of sixteen logits. -/
def top (l : Fin 16 → ℝ) : ℝ := Finset.univ.sup' Finset.univ_nonempty l

/-- The maximum over sixteen real logits, inside the extended reals. -/
theorem fold_max_coe (l : Fin 16 → ℝ) :
    Finset.fold max (⊥ : EReal) (fun e => ((l e : ℝ) : EReal)) Finset.univ = ((top l : ℝ) : EReal) := by
  change Finset.univ.sup (fun e => ((l e : ℝ) : EReal)) = _
  obtain ⟨e, -, he⟩ := Finset.exists_mem_eq_sup' (Finset.univ_nonempty (α := Fin 16)) l
  refine le_antisymm (Finset.sup_le fun e _ => ?_) ?_
  · exact EReal.coe_le_coe_iff.mpr (Finset.le_sup' l (Finset.mem_univ e))
  · unfold top
    rw [he]
    exact Finset.le_sup (f := fun e => ((l e : ℝ) : EReal)) (Finset.mem_univ e)

/-- The gate of each expert: the softmax of the token's logits. -/
def gate (l : Fin 16 → ℝ) (e : Fin 16) : ℝ := Real.exp (l e - top l) / ∑ x, Real.exp (l x - top l)

/-- Every gate is positive. -/
theorem gate_pos (l : Fin 16 → ℝ) (e : Fin 16) : 0 < gate l e :=
  div_pos (Real.exp_pos _) (Finset.sum_pos (fun _ _ => Real.exp_pos _) Finset.univ_nonempty)

/-- The softmax over extended reals, at real logits. -/
theorem softmax_coe (l : Fin 16 → ℝ) (e : Fin 16) :
    Ideal.div (Ideal.exp ((l e : EReal) - (top l : EReal))) (∑ x, Ideal.exp ((l x : EReal) - (top l : EReal)))
      = ((gate l e : ℝ) : EReal) := by
  simp only [← EReal.coe_sub, Ideal.exp_coe, coe_sum]
  exact div_coe _ _ (ne_of_gt (Finset.sum_pos (fun _ _ => Real.exp_pos _) Finset.univ_nonempty))

/-- The expert numbers compare as their words do. -/
theorem sgt_ofNat : ∀ k e : Fin 16,
    IntOp.cmpi .sgt (BitVec.ofNat 32 e) (BitVec.ofNat 32 k) = BitVec.ofBool (decide (k < e)) := by decide

open Classical in
/-- One term of the kernel's prefix sum: the gate of expert `k`, where it beats expert `e`. -/
theorem beats_term (p : Fin 16 → ℝ) (k e : Fin 16) (K : BitVec 32) (hK : K = BitVec.ofNat 32 k)
    [Decidable ((p e : EReal) < (p k : EReal))] [Decidable ((p k : EReal) = (p e : EReal))] :
    Scalar.select (IntOp.ori (BitVec.ofBool (decide ((p e : EReal) < (p k : EReal))))
      (IntOp.andi (BitVec.ofBool (decide ((p k : EReal) = (p e : EReal))))
        (IntOp.cmpi .sgt (BitVec.ofNat 32 e) K))) (p k : EReal) 0
      = (((if beats p k e then p k else 0 : ℝ)) : EReal) := by
  have hs : IntOp.cmpi .sgt (BitVec.ofNat 32 e) K = BitVec.ofBool (decide (k < e)) := by
    rw [hK, sgt_ofNat]
  rw [hs]
  simp only [EReal.coe_lt_coe_iff, EReal.coe_eq_coe_iff]
  have hb : beats p k e ↔ (p e < p k ∨ (p k = p e ∧ k < e)) := Iff.rfl
  by_cases h1 : p e < p k <;> by_cases h2 : p k = p e <;> by_cases h3 : k < e <;>
    simp [hb, h1, h2, h3, Scalar.select, IntOp.ori, IntOp.andi]

/-- A comparison's bit, widened and converted to a float, is 1 or 0. -/
theorem sitofp_ofBool (P : Prop) [Decidable P] :
    (FloatOps.sitofp (F := Ideal) .f32 (BitVec.setWidth 32 (BitVec.ofBool (decide P))) : EReal)
      = (((if P then 1 else 0 : ℝ)) : EReal) := by
  by_cases h : P <;> simp [h, FloatOps.sitofp]

/-- A choice between two reals by a comparison's bit. -/
theorem select_ofBool (P : Prop) [Decidable P] (a b : ℝ) :
    Scalar.select (BitVec.ofBool (decide P)) ((a : ℝ) : EReal) ((b : ℝ) : EReal) = (((if P then a else b : ℝ)) : EReal) := by
  by_cases h : P <;> simp [h, Scalar.select]

/-- The conjunction of two comparisons' bits. -/
theorem andi_ofBool (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]

end Cert.Moe

end
-- ==== Proof.Spec.lean ====
module

public import proofs.«01_k».proof.Proof.Arith

@[expose] public section

set_option maxRecDepth 16384

/-! # What the routing computes

Over the gates `p b i e` of token `i` of batch row `b` at expert `e`: the selection, the weights, the places in the
experts' buffers, the mask within capacity, the dispatched and combined entries and the balancing loss. -/

noncomputable section

namespace Cert.Moe

open Idealize.ShloMosaic
open Classical

/-- The selection as a number. -/
def sel (p : Fin 16 → ℝ) (e : Fin 16) : ℝ := if Sel c8 p e then 1 else 0

/-- The gates selected, added up. -/
def selSum (p : Fin 16 → ℝ) : ℝ := ∑ a, p a * sel p a

/-- The renormalised weight of an expert. -/
def wt (p : Fin 16 → ℝ) (e : Fin 16) : ℝ := p e / selSum p * sel p e

/-- The selection is not negative. -/
theorem sel_nonneg (p : Fin 16 → ℝ) (e : Fin 16) : 0 ≤ sel p e := by unfold sel; split_ifs <;> norm_num

/-- Some expert is always selected: nothing comes before the largest gate. -/
theorem exists_sel (p : Fin 16 → ℝ) : ∃ e, sel p e = 1 := by
  refine ⟨sortedFrom (fun k k' => decide (p k' < p k)) 0, ?_⟩
  unfold sel Sel
  rw [before_sorted (fun k k' => by simp), if_pos]
  have : ∀ r : Fin 16, ¬ r < 0 := fun r => by simp
  simpa [this] using c8_pos

/-- The selected gates add up to a positive number. -/
theorem selSum_pos {p : Fin 16 → ℝ} (hp : ∀ e, 0 < p e) : 0 < selSum p := by
  obtain ⟨e, he⟩ := exists_sel p
  refine lt_of_lt_of_le (?_ : 0 < p e * sel p e) ?_
  · rw [he, mul_one]; exact hp e
  · exact Finset.single_le_sum (f := fun a => p a * sel p a)
      (fun a _ => mul_nonneg (hp a).le (sel_nonneg p a)) (Finset.mem_univ e)

/-- An expert's weight is positive exactly when it is selected. -/
theorem wt_pos_iff {p : Fin 16 → ℝ} (hp : ∀ e, 0 < p e) (e : Fin 16) : 0 < wt p e ↔ sel p e = 1 := by
  have := div_pos (hp e) (selSum_pos hp)
  unfold wt
  by_cases h : Sel c8 p e
  · have hs : sel p e = 1 := if_pos h
    simpa [hs] using this
  · have hs : sel p e = 0 := if_neg h
    simp [hs]

variable (p : Fin 2 → ℕ → Fin 16 → ℝ)

/-- How many of the first `n` tokens of row `b` select expert `e`. -/
def cnt (b : Fin 2) (n : ℕ) (e : Fin 16) : ℝ := ∑ i ∈ Finset.range n, sel (p b i) e

/-- Token `i` selects expert `e` and finds room in its buffer. -/
def msk (b : Fin 2) (i : ℕ) (e : Fin 16) : ℝ := sel (p b i) e * if cnt p b i e < 160 then 1 else 0

/-- The places token `i` takes, added up over the experts that have room for it. -/
def place (b : Fin 2) (i : ℕ) : ℝ := ∑ e, cnt p b i e * msk p b i e

/-- The combining weight of token `i` at buffer place `c` of expert `e`. -/
def comb (b : Fin 2) (i : ℕ) (e : Fin 16) (c : ℕ) : ℝ :=
  if (c : ℝ) = place p b i then msk p b i e * wt (p b i) e else 0

/-- Whether token `i` is dispatched to place `c` of expert `e`. -/
def disp (b : Fin 2) (i : ℕ) (e : Fin 16) (c : ℕ) : ℝ :=
  if (c : ℝ) = place p b i ∧ 0 < msk p b i e * wt (p b i) e then 1 else 0

/-- The gates of the first `n` tokens, added up. -/
def gsum (b : Fin 2) (n : ℕ) (e : Fin 16) : ℝ := ∑ i ∈ Finset.range n, p b i e

/-- The mask of the first `n` tokens, added up. -/
def msum (b : Fin 2) (n : ℕ) (e : Fin 16) : ℝ := ∑ i ∈ Finset.range n, msk p b i e

/-- One batch row's part of the balancing loss. -/
def part (b : Fin 2) : ℝ := ∑ e, gsum p b 2048 e * msum p b 2048 e

/-- The balancing loss. -/
def loss : ℝ := (part p 0 + part p 1) * (1 / 524288)

/-- A sum over the first `s` of `n` positions. -/
theorem sum_lt_range {n : ℕ} (g : ℕ → ℝ) (s : ℕ) (hs : s ≤ n) :
    (∑ i : Fin n, if (i : ℕ) < s then g i else 0) = ∑ i ∈ Finset.range s, g i := by
  rw [Fin.sum_univ_eq_sum_range (fun i => if i < s then g i else 0) n, ← Finset.sum_filter]
  refine Finset.sum_congr ?_ fun _ _ => rfl
  ext i; simp only [Finset.mem_filter, Finset.mem_range]; omega

/-- The count at a token of a block: what came before the block and what the block adds. -/
theorem cnt_add (b : Fin 2) (n s : ℕ) (e : Fin 16) (hs : s ≤ 512) :
    cnt p b (n + s) e = cnt p b n e + ∑ i : Fin 512, if (i : ℕ) < s then sel (p b (n + i)) e else 0 := by
  rw [sum_lt_range (fun i => sel (p b (n + i)) e) s hs]
  exact Finset.sum_range_add _ _ _

/-- A sum over the tokens so far and one block more. -/
theorem sum_block (g : ℕ → ℝ) (n : ℕ) :
    ∑ i ∈ Finset.range (n + 512), g i = ∑ i ∈ Finset.range n, g i + ∑ i : Fin 512, g (n + i) := by
  rw [Finset.sum_range_add, Fin.sum_univ_eq_sum_range (fun i => g (n + i)) 512]

end Cert.Moe

end
-- ==== Proof.KBlock.lean ====
module

public import proofs.«01_k».proof.Proof.Spec
public import proofs.«01_k».proof.Proof.Gen.KernelIdeal.Skeleton

@[expose] public section

set_option maxRecDepth 16384

/-! # What one block of the kernel computes

The kernel's stored values over one block of 512 tokens, read at an index. -/

noncomputable section

namespace Cert.Moe.Kernel

open Idealize.ShloMosaic Idealize.ShloMosaic.TcCoe Idealize.SL.Sem Cert.KernelIdeal Cert.KernelIdeal.Gen

section names
variable {F : FTy → Type} [FloatOps F]
variable (X : Vec F S1x512x1024 .f32) (W : Vec F S1024x16 .f32)

/-- The expert number of each row. -/
def rows : IVec S16x512 32 := iota .tc S16x512 32 [0] iota_S16x512_d0_w32

/-- The block's gates, one row per expert. -/
def gates : FVec F S16x512 .f32 := k0_pay9 X W

/-- The prefix sums over experts 0 to 13. -/
def prefix13 : FVec F S16x512 .f32 :=
  k0_pay20 (gates X W) rows
    (k0_pay18 (gates X W) rows
      (k0_pay14 (gates X W) rows (k0_pay10 X W) (k0_pay11 X W) (k0_pay12 X W) (k0_pay13 X W))
      (k0_pay15 (gates X W)) (k0_pay16 (gates X W)) (k0_pay17 (gates X W) rows))
    (k0_pay19 (gates X W) rows)

/-- The selection. -/
def sels : FVec F S16x512 .f32 := k0_pay22 (gates X W) rows (prefix13 X W) (k0_pay21 (gates X W))

/-- The renormalised weights of the selected experts. -/
def wts : FVec F S16x512 .f32 := k0_pay23 (gates X W) rows (prefix13 X W) (k0_pay21 (gates X W))

/-- The position each selected token takes in its expert's buffer, over the counts so far. -/
def places (C : Vec F S16x1 .f32) (T : Vec F S512x512 .f32) : FVec F S16x512 .f32 :=
  k0_pay24 (gates X W) rows (prefix13 X W) (k0_pay21 (gates X W)) C T

/-- The counts after the block. -/
def counts (C : Vec F S16x1 .f32) : FVec F S16x1 .f32 :=
  k0_pay25 (gates X W) rows (prefix13 X W) (k0_pay21 (gates X W)) C

/-- The selection within capacity. -/
def masks (C : Vec F S16x1 .f32) (T : Vec F S512x512 .f32) : FVec F S16x512 .f32 := k0_pay26 (sels X W) (places X W C T)

/-- The dispatch block. -/
def dispatch (C : Vec F S16x1 .f32) (T : Vec F S512x512 .f32) (E : Vec F S16x2560 .f32) (M : Vec F S1x2560 .f32) :
    FVec F S1x512x2560 .f32 := k0_pay30 (sels X W) (wts X W) (places X W C T) E M

/-- The combine block. -/
def combine (C : Vec F S16x1 .f32) (T : Vec F S512x512 .f32) (E : Vec F S16x2560 .f32) (M : Vec F S1x2560 .f32) :
    FVec F S1x512x2560 .f32 := k0_pay29 (sels X W) (wts X W) (places X W C T) E M

end names

section ideal
variable (X : FVec Ideal S1x512x1024 .f32) (W : FVec Ideal S1024x16 .f32)

/-- The gates are the softmax of the token's logits. -/
theorem gates_apply (x : Fin 512 → Fin 1024 → ℝ) (w : Fin 1024 → Fin 16 → ℝ)
    (hX : ∀ s k, X (ix3 0 s k) = ((x s k : ℝ) : EReal)) (hW : ∀ k e, W (ix2 k e) = ((w k e : ℝ) : EReal))
    (e : Fin 16) (s : Fin 512) :
    gates (F := Ideal) X W (ix2 e s) = ((gate (fun e => ∑ k, x s k * w k e) e : ℝ) : EReal) := by
  pointwise [gates, k0_pay9]
  have hl : ∀ a : Fin 16, ∑ k, W (ix2 k a) * X (ix3 0 s k) = (((∑ k, x s k * w k a : ℝ)) : EReal) := fun a => by
    rw [← coe_sum]
    exact Finset.sum_congr rfl fun k _ => by rw [hX, hW, mul_comm, EReal.coe_mul]
  simp only [hl, ofBits_negInf, fold_max_coe]
  exact softmax_coe _ e

variable {X W} {p : Fin 16 → Fin 512 → ℝ} (hp : ∀ e s, gates (F := Ideal) X W (ix2 e s) = ((p e s : ℝ) : EReal))
include hp

/-- The selection is the top-p selection of the token's gates. -/
theorem sels_apply (e : Fin 16) (s : Fin 512) :
    sels (F := Ideal) X W (ix2 e s) = ((sel (fun a => p a s) e : ℝ) : EReal) := by
  classical
  have hp' : ∀ e s, k0_pay9 (F := Ideal) X W (ix2 e s) = ((p e s : ℝ) : EReal) := hp
  pointwise [sels, rows, prefix13, k0_pay22, k0_pay21, k0_pay20, k0_pay19, k0_pay18, k0_pay17, k0_pay16, k0_pay15,
    k0_pay14, k0_pay13, k0_pay12, k0_pay11, k0_pay10]
  simp only [hp, hp']
  have T := fun k K h => beats_term (fun a => p a s) k e K h
  rw [T 0 0#32 rfl, T 1 1#32 rfl, T 2 2#32 rfl, T 3 3#32 rfl, T 4 4#32 rfl, T 5 5#32 rfl, T 6 6#32 rfl, T 7 7#32 rfl,
    T 8 8#32 rfl, T 9 9#32 rfl, T 10 10#32 rfl, T 11 11#32 rfl, T 12 12#32 rfl, T 13 13#32 rfl, T 14 14#32 rfl,
    T 15 15#32 rfl, ofBits_c8]
  simp only [← EReal.coe_zero, ← EReal.coe_add, EReal.coe_lt_coe_iff]
  rw [sitofp_ofBool]
  have hb : before (fun a => p a s) e = _ := (Finset.sum_congr rfl fun _ _ => rfl).trans
    (Fin.sum_univ_castSucc (fun j : Fin 16 => if beats (fun a => p a s) j e then p j s else 0))
  simp only [Fin.sum_univ_castSucc, Finset.univ_eq_empty, Finset.sum_empty] at hb
  unfold sel Sel
  rw [hb]
  simp only [zero_add]
  rfl

/-- The weights are the selected gates over their sum. -/
theorem wts_apply (hpos : ∀ e s, 0 < p e s) (e : Fin 16) (s : Fin 512) :
    wts (F := Ideal) X W (ix2 e s) = ((wt (fun a => p a s) e : ℝ) : EReal) := by
  have hs : ∀ e s, k0_pay22 (F := Ideal) (gates X W) rows (prefix13 X W) (k0_pay21 (gates X W)) (ix2 e s)
      = ((sel (fun a => p a s) e : ℝ) : EReal) := sels_apply hp
  pointwise [wts, k0_pay23]
  simp only [hp, hs, ← EReal.coe_mul, coe_sum]
  have h0 := div_coe (p e s) _ (ne_of_gt (selSum_pos (p := fun a => p a s) (fun a => hpos a s)))
  unfold selSum at h0
  rw [h0, ← EReal.coe_mul]
  rfl

/-- The selected gates' counts after the block. -/
theorem counts_apply (C : FVec Ideal S16x1 .f32) (e : Fin 16) :
    counts (F := Ideal) X W C (ix2 e 0) = C (ix2 e 0) + ((∑ s, sel (fun a => p a s) e : ℝ) : EReal) := by
  have hs : ∀ e s, k0_pay22 (F := Ideal) (gates X W) rows (prefix13 X W) (k0_pay21 (gates X W)) (ix2 e s)
      = ((sel (fun a => p a s) e : ℝ) : EReal) := sels_apply hp
  pointwise [counts, k0_pay25]
  simp only [hs, coe_sum]

/-- The place of a token: the count so far and the selections before it in the block. -/
theorem places_apply (C : FVec Ideal S16x1 .f32) (T : FVec Ideal S512x512 .f32) (n : Fin 16 → ℝ)
    (hC : ∀ e, C (ix2 e 0) = ((n e : ℝ) : EReal))
    (hT : ∀ i s : Fin 512, T (ix2 i s) = (((if (i : ℕ) < s then 1 else 0 : ℝ)) : EReal)) (e : Fin 16) (s : Fin 512) :
    places (F := Ideal) X W C T (ix2 e s)
      = ((n e + ∑ i : Fin 512, (if (i : ℕ) < s then sel (fun a => p a i) e else 0) : ℝ) : EReal) := by
  have hs : ∀ e s, k0_pay22 (F := Ideal) (gates X W) rows (prefix13 X W) (k0_pay21 (gates X W)) (ix2 e s)
      = ((sel (fun a => p a s) e : ℝ) : EReal) := sels_apply hp
  pointwise [places, k0_pay24]
  simp only [hC, hs, hT, ← EReal.coe_mul, coe_sum, mul_ite, mul_one, mul_zero]
  rw [← EReal.coe_add]

variable {C : FVec Ideal S16x1 .f32} {T : FVec Ideal S512x512 .f32} {q : Fin 16 → Fin 512 → ℝ}
  (hq : ∀ e s, places (F := Ideal) X W C T (ix2 e s) = ((q e s : ℝ) : EReal))
include hq

/-- The mask within capacity. -/
theorem masks_apply (e : Fin 16) (s : Fin 512) :
    masks (F := Ideal) X W C T (ix2 e s)
      = ((sel (fun a => p a s) e * (if q e s < 160 then 1 else 0) : ℝ) : EReal) := by
  classical
  pointwise [masks, k0_pay26]
  rw [hq, sels_apply hp, ofBits_cap]
  simp only [EReal.coe_lt_coe_iff]
  rw [sitofp_ofBool, ← EReal.coe_mul]

variable {E : FVec Ideal S16x2560 .f32} {M : FVec Ideal S1x2560 .f32}
  (hE : ∀ (e : Fin 16) (l : Fin 2560), E (ix2 e l) = (((if (l : ℕ) / 160 = e then 1 else 0 : ℝ)) : EReal))
  (hM : ∀ l : Fin 2560, M (ix2 0 l) = ((((l : ℕ) % 160 : ℕ) : ℝ) : EReal))
include hE

/-- The mask times the weight of the lane's expert. -/
theorem weight_apply (hpos : ∀ e s, 0 < p e s) (s : Fin 512) (l : Fin 2560) (e : Fin 16) (hl : (l : ℕ) / 160 = e) :
    k0_pay27 (F := Ideal) (sels X W) (wts X W) (places X W C T) E (ix2 s l)
      = ((sel (fun a => p a s) e * (if q e s < 160 then 1 else 0) * wt (fun a => p a s) e : ℝ) : EReal) := by
  have hm : ∀ e s, k0_pay26 (F := Ideal) (sels X W) (places X W C T) (ix2 e s)
      = ((sel (fun a => p a s) e * (if q e s < 160 then 1 else 0) : ℝ) : EReal) := masks_apply hp hq
  pointwise [k0_pay27]
  simp only [hm, wts_apply hp hpos, hE, ← EReal.coe_mul, coe_sum]
  congr 1
  rw [Finset.sum_eq_single e]
  · rw [if_pos hl, mul_one]
  · intro a _ ha
    rw [if_neg (c := (l : ℕ) / 160 = a), mul_zero]
    intro h; exact ha (Fin.ext (h.symm.trans hl))
  · intro h; exact absurd (Finset.mem_univ _) h

omit hE
include hM

/-- The lane's place is the token's. -/
theorem hit_apply (s : Fin 512) (l : Fin 2560) :
    k0_pay28 (F := Ideal) (sels X W) (places X W C T) M (ix2 s l)
      = BitVec.ofBool (decide ((((l : ℕ) % 160 : ℕ) : ℝ)
          = ∑ e, q e s * (sel (fun a => p a s) e * (if q e s < 160 then 1 else 0)))) := by
  have hm : ∀ e s, k0_pay26 (F := Ideal) (sels X W) (places X W C T) (ix2 e s)
      = ((sel (fun a => p a s) e * (if q e s < 160 then 1 else 0) : ℝ) : EReal) := masks_apply hp hq
  pointwise [k0_pay28]
  simp only [hm, hq, hM, ← EReal.coe_mul, coe_sum, EReal.coe_eq_coe_iff, Finset.univ_unique, Finset.sum_singleton]

include hE

/-- The combine block at a token and a lane. -/
theorem combine_apply (hpos : ∀ e s, 0 < p e s) (s : Fin 512) (l : Fin 2560) (e : Fin 16) (hl : (l : ℕ) / 160 = e) :
    combine (F := Ideal) X W C T E M (ix3 0 s l)
      = (((if (((l : ℕ) % 160 : ℕ) : ℝ) = ∑ e, q e s * (sel (fun a => p a s) e * (if q e s < 160 then 1 else 0))
          then sel (fun a => p a s) e * (if q e s < 160 then 1 else 0) * wt (fun a => p a s) e else 0 : ℝ)) : EReal) := by
  pointwise [combine, k0_pay29]
  rw [hit_apply hp hq hM, weight_apply hp hq hE hpos s l e hl, ← EReal.coe_zero, select_ofBool]

/-- The dispatch block at a token and a lane. -/
theorem dispatch_apply (hpos : ∀ e s, 0 < p e s) (s : Fin 512) (l : Fin 2560) (e : Fin 16) (hl : (l : ℕ) / 160 = e) :
    dispatch (F := Ideal) X W C T E M (ix3 0 s l)
      = (((if (((l : ℕ) % 160 : ℕ) : ℝ) = ∑ e, q e s * (sel (fun a => p a s) e * (if q e s < 160 then 1 else 0))
            ∧ 0 < sel (fun a => p a s) e * (if q e s < 160 then 1 else 0) * wt (fun a => p a s) e
          then 1 else 0 : ℝ)) : EReal) := by
  pointwise [dispatch, k0_pay30]
  rw [hit_apply hp hq hM, weight_apply hp hq hE hpos s l e hl]
  rw [← EReal.coe_zero, ← EReal.coe_one]
  simp only [EReal.coe_lt_coe_iff]
  rw [andi_ofBool, select_ofBool]

end ideal

end Cert.Moe.Kernel

end
-- ==== Proof.KHost.lean ====
module

public import proofs.«01_k».proof.Proof.Gen.KernelIdeal.Value
public import proofs.«01_k».proof.Proof.KBlock
public import Idealize.ShloMosaic.Lib.Pipeline.ValueKit
public import Idealize.ShloMosaic.Lib.StableHlo.ReadAt

@[expose] public section

set_option maxRecDepth 16384

/-! # The arrays the kernel's host operations build

The lane's expert, the lane's place, and the strictly lower triangle of tokens. -/

noncomputable section

namespace Cert.Moe.Kernel

open Idealize.ShloMosaic Idealize.ShloMosaic.TcCoe Idealize.SL.Sem Cert.KernelIdeal Cert.KernelIdeal.Gen Cert.KernelIdeal.Value

/-- The lane's expert as the host's floor division computes it. -/
theorem lane_div : ∀ l : Fin 2560, (Scalar.select
    (IntOp.andi
      (IntOp.cmpi CmpIPredicate.ne
        (if BitVec.ofNat 32 l = 0 then (0 : BitVec 32) else if (BitVec.ofNat 32 l).msb = true then -1 else 1)
        (if (160#32) = 0 then 0 else if BitVec.msb (160#32) = true then -1 else 1))
      (IntOp.cmpi CmpIPredicate.ne (IntOp.remsi ArithUnit.host (BitVec.ofNat 32 l) (160#32)) 0#32))
    (IntOp.subi (IntOp.divsi ArithUnit.host (BitVec.ofNat 32 l) (160#32)) 1#32)
    (IntOp.divsi ArithUnit.host (BitVec.ofNat 32 l) (160#32)) : BitVec 32) = BitVec.ofNat 32 (l / 160) := by
  decide +kernel

/-- The lane's place as the host's remainder computes it. -/
theorem lane_mod : ∀ l : Fin 2560, (Scalar.select
    (IntOp.andi
      (IntOp.cmpi CmpIPredicate.ne
        (IntOp.cmpi CmpIPredicate.slt (IntOp.remsi ArithUnit.host (BitVec.ofNat 32 l)
          (Scalar.select (IntOp.cmpi CmpIPredicate.eq (160#32) 0#32) (1#32) (160#32))) 0#32)
        (IntOp.cmpi CmpIPredicate.slt (Scalar.select (IntOp.cmpi CmpIPredicate.eq (160#32) 0#32) (1#32) (160#32)) 0#32))
      (IntOp.cmpi CmpIPredicate.ne (IntOp.remsi ArithUnit.host (BitVec.ofNat 32 l)
        (Scalar.select (IntOp.cmpi CmpIPredicate.eq (160#32) 0#32) (1#32) (160#32))) 0#32))
    (IntOp.addi (IntOp.remsi ArithUnit.host (BitVec.ofNat 32 l)
        (Scalar.select (IntOp.cmpi CmpIPredicate.eq (160#32) 0#32) (1#32) (160#32)))
      (Scalar.select (IntOp.cmpi CmpIPredicate.eq (160#32) 0#32) (1#32) (160#32)))
    (IntOp.remsi ArithUnit.host (BitVec.ofNat 32 l)
      (Scalar.select (IntOp.cmpi CmpIPredicate.eq (160#32) 0#32) (1#32) (160#32))) : BitVec 32)
      = BitVec.ofNat 32 (l % 160) := by
  decide +kernel

/-- A small natural number's word reads back as the number. -/
theorem toInt_small (n : ℕ) (h : n < 2 ^ 31) : (BitVec.ofNat 32 n).toInt = n := by
  rw [BitVec.toInt_eq_toNat_cond, BitVec.toNat_ofNat, Nat.mod_eq_of_lt (by omega), if_pos (by omega)]

/-- Small numbers are equal where their words are. -/
theorem eq_small (a b : ℕ) (ha : a < 2 ^ 31) (hb : b < 2 ^ 31) :
    IntOp.cmpi .eq (BitVec.ofNat 32 a) (BitVec.ofNat 32 b) = BitVec.ofBool (decide (a = b)) := by
  unfold IntOp.cmpi
  congr 1
  rw [Bool.eq_iff_iff, beq_iff_eq, decide_eq_true_iff]
  refine ⟨fun h => ?_, fun h => by rw [h]⟩
  have := congrArg BitVec.toNat h
  simp only [BitVec.toNat_ofNat] at this
  omega

/-- Small numbers compare as their words do. -/
theorem slt_small (a b : ℕ) (ha : a < 2 ^ 31) (hb : b < 2 ^ 31) :
    IntOp.cmpi .slt (BitVec.ofNat 32 a) (BitVec.ofNat 32 b) = BitVec.ofBool (decide (a < b)) := by
  unfold IntOp.cmpi
  congr 1
  rw [Bool.eq_iff_iff, decide_eq_true_iff]
  simp only [BitVec.slt, decide_eq_true_iff, toInt_small a ha, toInt_small b hb]
  omega

/-- A comparison's bit converted to a float is 1 or 0. -/
theorem uitofp_ofBool (P : Prop) [Decidable P] :
    (FloatOps.uitofp (F := Ideal) .f32 (BitVec.ofBool (decide P)) : EReal) = (((if P then 1 else 0 : ℝ)) : EReal) := by
  by_cases h : P <;> simp [h, FloatOps.uitofp]

variable (m : (ℓ : Loc nD τ sig) → Buf (Elt Ideal) ℓ)

set_option maxHeartbeats 1600000 in
/-- The selector of a lane's expert. -/
theorem host_smat (c : Dev nD) (e : Fin 16) (l : Fin 2560) :
    V m c main_v8 (ix2 e l) = (((if (l : ℕ) / 160 = e then 1 else 0 : ℝ)) : EReal) := by
  unfold V
  simp only [List.flatten_cons, List.flatten_nil, List.append_nil, StableHlo.after_append]
  after_reads_at
  refine (congrArg (fun z => FloatOps.uitofp (F := Ideal) .f32 (IntOp.cmpi .eq z (BitVec.ofNat 32 e))) (lane_div l)).trans ?_
  beta_reduce
  rw [eq_small _ _ (by omega) (by omega), uitofp_ofBool]

set_option maxHeartbeats 1600000 in
/-- The strictly lower triangle of tokens. -/
theorem host_tri (c : Dev nD) (i s : Fin 512) :
    V m c main_v18 (ix2 i s) = (((if (i : ℕ) < s then 1 else 0 : ℝ)) : EReal) := by
  unfold V
  simp only [List.flatten_cons, List.flatten_nil, List.append_nil, StableHlo.after_append]
  after_reads_at
  rw [slt_small _ _ (by omega) (by omega), uitofp_ofBool]

set_option maxHeartbeats 1600000 in
/-- The place of a lane within its expert's buffer. -/
theorem host_cmod (c : Dev nD) (r : Fin 8) (l : Fin 2560) :
    V m c main_v11 (ix2 r l) = ((((l : ℕ) % 160 : ℕ) : ℝ) : EReal) := by
  unfold V
  simp only [List.flatten_cons, List.flatten_nil, List.append_nil, StableHlo.after_append]
  after_reads_at
  refine (congrArg (fun z => FloatOps.sitofp (F := Ideal) .f32 z) (lane_mod l)).trans ?_
  change (((BitVec.ofNat 32 (l % 160)).toInt : ℝ) : EReal) = _
  rw [toInt_small _ (by omega)]
  norm_cast

/-- The tokens' block at a grid point. -/
theorem index0 : ∀ t : Fin cfg0.N, win0_0.index t = ![(t : ℕ) / 4, (t : ℕ) % 4, 0] := by decide +kernel
/-- The gating weights are one block. -/
theorem index1 : ∀ t : Fin cfg0.N, win0_1.index t = ![0, 0] := by decide +kernel
/-- The expert of each lane is one block. -/
theorem index2 : ∀ t : Fin cfg0.N, win0_2.index t = ![0, 0] := by decide +kernel
/-- The slot of each lane is one block. -/
theorem index3 : ∀ t : Fin cfg0.N, win0_3.index t = ![0, 0] := by decide +kernel
/-- The triangle is one block. -/
theorem index4 : ∀ t : Fin cfg0.N, win0_4.index t = ![0, 0] := by decide +kernel

/-- The tokens of the point's block. -/
theorem block_x (c : Dev nD) (t : Fin cfg0.N) (s : Fin 512) (k : Fin 1024) :
    (iblk m c 0 t : Vec Ideal S1x512x1024 .f32) (ix3 0 s k)
      = m ((c : Thread nD τ).loc main_arg0) (ix3 (Fin.ofNat 2 (t / 4)) (Fin.ofNat 2048 (512 * (t % 4) + s)) k) := by
  have ht : (t : ℕ) < 8 := t.isLt
  rw [← V_main_arg0 m c]
  blk_simp [iblk]
  refine congrArg (V m c main_arg0) (funext fun a => Fin.ext ?_)
  match a with
  | ⟨0, _⟩ => blk_simp [index0 t]; simp only [Fin.ofNat]; omega
  | ⟨1, _⟩ => blk_simp [index0 t]; simp only [Fin.ofNat]; omega
  | ⟨2, _⟩ => blk_simp [index0 t]

/-- The gating weights, at every point. -/
theorem block_w (c : Dev nD) (t : Fin cfg0.N) (k : Fin 1024) (e : Fin 16) :
    (iblk m c 1 t : Vec Ideal S1024x16 .f32) (ix2 k e)
      = m ((c : Thread nD τ).loc main_arg1) (ix2 k e) := by
  rw [← V_main_arg1 m c]
  blk_simp [iblk]
  refine congrArg (V m c main_arg1) (funext fun a => Fin.ext ?_)
  match a with
  | ⟨0, _⟩ => blk_simp [index1 t]
  | ⟨1, _⟩ => blk_simp [index1 t]

/-- The selector of a lane's expert, at every point. -/
theorem block_smat (c : Dev nD) (t : Fin cfg0.N) (e : Fin 16) (l : Fin 2560) :
    (iblk m c 2 t : Vec Ideal S16x2560 .f32) (ix2 e l) = (((if (l : ℕ) / 160 = e then 1 else 0 : ℝ)) : EReal) := by
  rw [← host_smat m c]
  blk_simp [iblk]
  refine congrArg (V m c main_v8) (funext fun a => Fin.ext ?_)
  match a with
  | ⟨0, _⟩ => blk_simp [index2 t]
  | ⟨1, _⟩ => blk_simp [index2 t]

/-- The places of the lanes, at every point. -/
theorem block_cmod (c : Dev nD) (t : Fin cfg0.N) (r : Fin 8) (l : Fin 2560) :
    (iblk m c 3 t : Vec Ideal S8x2560 .f32) (ix2 r l) = ((((l : ℕ) % 160 : ℕ) : ℝ) : EReal) := by
  rw [← host_cmod m c r]
  blk_simp [iblk]
  refine congrArg (V m c main_v11) (funext fun a => Fin.ext ?_)
  match a with
  | ⟨0, _⟩ => blk_simp [index3 t]
  | ⟨1, _⟩ => blk_simp [index3 t]

/-- The lower triangle, at every point. -/
theorem block_tri (c : Dev nD) (t : Fin cfg0.N) (i s : Fin 512) :
    (iblk m c 4 t : Vec Ideal S512x512 .f32) (ix2 i s) = (((if (i : ℕ) < s then 1 else 0 : ℝ)) : EReal) := by
  rw [← host_tri m c]
  blk_simp [iblk]
  refine congrArg (V m c main_v18) (funext fun a => Fin.ext ?_)
  match a with
  | ⟨0, _⟩ => blk_simp [index4 t]
  | ⟨1, _⟩ => blk_simp [index4 t]

end Cert.Moe.Kernel

end
-- ==== Proof.KPoint.lean ====
module

public import proofs.«01_k».proof.Proof.KHost
public import Idealize.ShloMosaic.Lib.Pipeline.ReadBack
public import Idealize.ShloMosaic.Lib.WritesUnit

@[expose] public section

set_option maxRecDepth 16384

/-! # What one grid point leaves

Each array a grid point leaves, as the block's values over what the point starts from: at the first point of a batch row
the counts and sums start from the zeros stored there, at the others from what the point before left. -/

noncomputable section

namespace Cert.Moe.Kernel

open Idealize.ShloMosaic Idealize.ShloMosaic.TcCoe Idealize.SL.Sem Cert.KernelIdeal Cert.KernelIdeal.Gen Cert.KernelIdeal.Value

section generic
variable {F : FTy → Type} [FloatOps F]
variable (m : (ℓ : Loc nD τ sig) → Buf (Elt F) ℓ)

/-- The arrays one point leaves: dispatch, combine, loss, counts, gate sums, mask sums, the loss so far. -/
abbrev St (F : FTy → Type) [FloatOps F] : Type :=
  Vec F S1x512x2560 .f32 × Vec F S1x512x2560 .f32 × Vec F S1x1 .f32 × Vec F S16x128 .f32 × Vec F S16x128 .f32
    × Vec F S16x128 .f32 × Vec F S1x1 .f32

/-- The first column of a scratch array. -/
def col (A : Vec F S16x128 .f32) : Vec F S16x1 .f32 := View.ld A (Rect.unit ![0, 0] ![16, 1] inb_S16x128_S16x1_0_0)

/-- The first row of the lanes' places. -/
def row (A : Vec F S8x2560 .f32) : Vec F S1x2560 .f32 := View.ld A (Rect.unit ![0, 0] ![1, 2560] inb_S8x2560_S1x2560_0_0)

/-- The point's tokens. -/
def bx (c : Dev nD) (t : Fin cfg0.N) : Vec F S1x512x1024 .f32 := iblk m c 0 t
/-- The gating weights. -/
def bw (c : Dev nD) (t : Fin cfg0.N) : Vec F S1024x16 .f32 := iblk m c 1 t
/-- The lanes' experts. -/
def be (c : Dev nD) (t : Fin cfg0.N) : Vec F S16x2560 .f32 := iblk m c 2 t
/-- The lanes' places. -/
def bm (c : Dev nD) (t : Fin cfg0.N) : Vec F S1x2560 .f32 := row (iblk m c 3 t)
/-- The lower triangle. -/
def bt (c : Dev nD) (t : Fin cfg0.N) : Vec F S512x512 .f32 := iblk m c 4 t

/-- The counts the point starts from. -/
def cin (t : ℕ) (acc : St F) : Vec F S16x1 .f32 := if t % 4 = 0 then col k0_pay5 else col acc.2.2.2.1
/-- The gate sums the point starts from. -/
def gin (t : ℕ) (acc : St F) : Vec F S16x1 .f32 := if t % 4 = 0 then col k0_pay6 else col acc.2.2.2.2.1
/-- The mask sums the point starts from. -/
def min' (t : ℕ) (acc : St F) : Vec F S16x1 .f32 := if t % 4 = 0 then col k0_pay7 else col acc.2.2.2.2.2.1
/-- The loss the point starts from. -/
def lin (t : ℕ) (acc : St F) : Vec F S1x1 .f32 := if t % 8 = 0 then k0_pay8 else acc.2.2.2.2.2.2

/-- The gate sums the point leaves. -/
def gout (c : Dev nD) (t : Fin cfg0.N) (acc : St F) : FVec F S16x1 .f32 :=
  k0_pay1 (gin t acc) (k0_pay31 (gates (bx m c t) (bw m c t)))
/-- The mask sums the point leaves. -/
def mout (c : Dev nD) (t : Fin cfg0.N) (acc : St F) : FVec F S16x1 .f32 :=
  k0_pay2 (masks (bx m c t) (bw m c t) (cin t acc) (bt m c t)) (min' t acc)
/-- The loss the point leaves. -/
def lout (c : Dev nD) (t : Fin cfg0.N) (acc : St F) : FVec F S1x1 .f32 :=
  if t.val % 4 = 3 then k0_pay3 (lin t acc) (gout m c t acc) (mout m c t acc) else lin t acc

/-- The counts' buffer, written whole, reads as what was written. -/
theorem read0 (h) (X : Vec F S16x128 .f32) :
    View.read (Elt F) (View.whole cc0_scratch0) (Memref.IsWhole.unread (m := Memref.whole cc0_scratch0) h X) = X :=
  read_unread_whole _ h X
/-- The same for the sums of gates. -/
theorem read1 (h) (X : Vec F S16x128 .f32) :
    View.read (Elt F) (View.whole cc0_scratch1) (Memref.IsWhole.unread (m := Memref.whole cc0_scratch1) h X) = X :=
  read_unread_whole _ h X
/-- The same for the sums of masks. -/
theorem read2 (h) (X : Vec F S16x128 .f32) :
    View.read (Elt F) (View.whole cc0_scratch2) (Memref.IsWhole.unread (m := Memref.whole cc0_scratch2) h X) = X :=
  read_unread_whole _ h X
/-- The same for the loss. -/
theorem read3 (h) (X : Vec F S1x1 .f32) :
    View.read (Elt F) (View.whole cc0_scratch3) (Memref.IsWhole.unread (m := Memref.whole cc0_scratch3) h X) = X :=
  read_unread_whole _ h X

/-- The five kinds of grid point, by the conditions of the body's four branches. -/
theorem kinds (t : ℕ) :
    (t % 4 = 0 ∧ t % 8 = 0 ∧ ¬ t % 4 = 3 ∧ ¬ t % 8 = 7) ∨ (t % 4 = 0 ∧ ¬ t % 8 = 0 ∧ ¬ t % 4 = 3 ∧ ¬ t % 8 = 7)
      ∨ (¬ t % 4 = 0 ∧ ¬ t % 8 = 0 ∧ ¬ t % 4 = 3 ∧ ¬ t % 8 = 7) ∨ (¬ t % 4 = 0 ∧ ¬ t % 8 = 0 ∧ t % 4 = 3 ∧ ¬ t % 8 = 7)
      ∨ (¬ t % 4 = 0 ∧ ¬ t % 8 = 0 ∧ t % 4 = 3 ∧ t % 8 = 7) := by
  omega

/-- The dispatch block the point writes. -/
theorem point_disp (c : Dev nD) (t : Fin cfg0.N) (acc : St F) :
    (stAt0 m c t.val t.isLt acc).1 = dispatch (bx m c t) (bw m c t) (cin t acc) (bt m c t) (be m c t) (bm m c t) := by
  unfold cin
  rcases kinds t with ⟨h0, h1, h2, h3⟩ | ⟨h0, h1, h2, h3⟩ | ⟨h0, h1, h2, h3⟩ | ⟨h0, h1, h2, h3⟩ | ⟨h0, h1, h2, h3⟩
  all_goals first
    | rw [stAt0_A m c t acc h0 h1 h2 h3] | rw [stAt0_B m c t acc h0 h1 h2 h3] | rw [stAt0_C m c t acc h0 h1 h2 h3]
    | rw [stAt0_D m c t acc h0 h1 h2 h3] | rw [stAt0_E m c t acc h0 h1 h2 h3]
  all_goals frame_out
  all_goals simp only [h0, if_true, if_false, read0, read1, read2, read3]
  all_goals first
    | (rw [View.readCov_fill _ _ _ _ _ (by decide)]; rfl)
    | rfl

/-- The combine block the point writes. -/
theorem point_comb (c : Dev nD) (t : Fin cfg0.N) (acc : St F) :
    (stAt0 m c t.val t.isLt acc).2.1 = combine (bx m c t) (bw m c t) (cin t acc) (bt m c t) (be m c t) (bm m c t) := by
  unfold cin
  rcases kinds t with ⟨h0, h1, h2, h3⟩ | ⟨h0, h1, h2, h3⟩ | ⟨h0, h1, h2, h3⟩ | ⟨h0, h1, h2, h3⟩ | ⟨h0, h1, h2, h3⟩
  all_goals first
    | rw [stAt0_A m c t acc h0 h1 h2 h3] | rw [stAt0_B m c t acc h0 h1 h2 h3] | rw [stAt0_C m c t acc h0 h1 h2 h3]
    | rw [stAt0_D m c t acc h0 h1 h2 h3] | rw [stAt0_E m c t acc h0 h1 h2 h3]
  all_goals frame_out
  all_goals simp only [h0, if_true, if_false, read0, read1, read2, read3]
  all_goals first
    | (rw [View.readCov_fill _ _ _ _ _ (by decide)]; rfl)
    | rfl

/-- A column stored last is the first column. -/
theorem canon_column (w : Vec F S16x1 .f32) (L) (e : Fin 16) :
    View.canon (Val := Elt F) (e := .f32) (⟨Rect.unit ![0, 0] ![16, 1] inb_S16x128_S16x1_0_0, w⟩ :: L) (ix2 e 0) = w (ix2 e 0) := by
  have h : (Rect.unit (s := S16x128) ![0, 0] ![16, 1] inb_S16x128_S16x1_0_0).emb (ix2 e 0) = ix2 e 0 := by
    funext a
    match a with
    | ⟨0, _⟩ => exact Fin.ext (by simp [Rect.emb, Rect.unit])
    | ⟨1, _⟩ => rfl
  exact (congrArg _ h.symm).trans (View.canon_cons_emb (Rect.unit (s := S16x128) ![0, 0] ![16, 1] inb_S16x128_S16x1_0_0) w L (ix2 e 0))

/-- The counts the point leaves. -/
theorem point_cnt (c : Dev nD) (t : Fin cfg0.N) (acc : St F) (e : Fin 16) :
    (stAt0 m c t.val t.isLt acc).2.2.2.1 (ix2 e 0) = counts (bx m c t) (bw m c t) (cin t acc) (ix2 e 0) := by
  unfold cin
  rcases kinds t with ⟨h0, h1, h2, h3⟩ | ⟨h0, h1, h2, h3⟩ | ⟨h0, h1, h2, h3⟩ | ⟨h0, h1, h2, h3⟩ | ⟨h0, h1, h2, h3⟩
  all_goals first
    | rw [stAt0_A m c t acc h0 h1 h2 h3] | rw [stAt0_B m c t acc h0 h1 h2 h3] | rw [stAt0_C m c t acc h0 h1 h2 h3]
    | rw [stAt0_D m c t acc h0 h1 h2 h3] | rw [stAt0_E m c t acc h0 h1 h2 h3]
  all_goals frame_out
  all_goals simp only [h0, if_true, if_false, read0, read1, read2, read3]
  all_goals first
    | (rw [canon_column, View.readCov_fill _ _ _ _ _ (by decide)]; rfl)
    | (refine (View.read_writes_cons_unit_of_mem _ _ _ _ _ _ (ix2 e 0) rfl ?_).trans ?_
       · intro a
         match a with
         | ⟨0, _⟩ => exact (Nat.zero_add _).symm
         | ⟨1, _⟩ => rfl
       · rfl)

/-- Both coordinates of the origin are zero. -/
theorem zeros : ∀ a, (![0, 0] : Fin 2 → ℕ) a = 0 := by decide

/-- The gate sums the point leaves. -/
theorem point_gsum (c : Dev nD) (t : Fin cfg0.N) (acc : St F) (e : Fin 16) :
    (stAt0 m c t.val t.isLt acc).2.2.2.2.1 (ix2 e 0) = gout m c t acc (ix2 e 0) := by
  unfold gout gin
  rcases kinds t with ⟨h0, h1, h2, h3⟩ | ⟨h0, h1, h2, h3⟩ | ⟨h0, h1, h2, h3⟩ | ⟨h0, h1, h2, h3⟩ | ⟨h0, h1, h2, h3⟩
  all_goals first
    | rw [stAt0_A m c t acc h0 h1 h2 h3] | rw [stAt0_B m c t acc h0 h1 h2 h3] | rw [stAt0_C m c t acc h0 h1 h2 h3]
    | rw [stAt0_D m c t acc h0 h1 h2 h3] | rw [stAt0_E m c t acc h0 h1 h2 h3]
  all_goals frame_out
  all_goals simp only [h0, if_true, if_false, read0, read1, read2, read3]
  all_goals first
    | (rw [canon_column, View.readCov_fill _ _ _ _ _ (by decide)]; rfl)
    | (refine (View.read_writes_cons_unit_of_mem _ _ _ _ _ _ (ix2 e 0) rfl ?_).trans ?_
       · intro a
         match a with
         | ⟨0, _⟩ => exact (Nat.zero_add _).symm
         | ⟨1, _⟩ => rfl
       · rfl)

/-- The mask sums the point leaves. -/
theorem point_msum (c : Dev nD) (t : Fin cfg0.N) (acc : St F) (e : Fin 16) :
    (stAt0 m c t.val t.isLt acc).2.2.2.2.2.1 (ix2 e 0) = mout m c t acc (ix2 e 0) := by
  unfold mout cin min'
  rcases kinds t with ⟨h0, h1, h2, h3⟩ | ⟨h0, h1, h2, h3⟩ | ⟨h0, h1, h2, h3⟩ | ⟨h0, h1, h2, h3⟩ | ⟨h0, h1, h2, h3⟩
  all_goals first
    | rw [stAt0_A m c t acc h0 h1 h2 h3] | rw [stAt0_B m c t acc h0 h1 h2 h3] | rw [stAt0_C m c t acc h0 h1 h2 h3]
    | rw [stAt0_D m c t acc h0 h1 h2 h3] | rw [stAt0_E m c t acc h0 h1 h2 h3]
  all_goals frame_out
  all_goals simp only [h0, if_true, if_false, read0, read1, read2, read3]
  all_goals first
    | (rw [canon_column, View.readCov_fill _ _ _ _ _ (by decide), View.readCov_fill _ _ _ _ _ (by decide)]; rfl)
    | (refine (View.read_writes_cons_unit_of_mem _ _ _ _ _ _ (ix2 e 0) rfl ?_).trans ?_
       · intro a
         match a with
         | ⟨0, _⟩ => exact (Nat.zero_add _).symm
         | ⟨1, _⟩ => rfl
       · rfl)

/-- The loss so far that the point leaves. -/
theorem point_lacc (c : Dev nD) (t : Fin cfg0.N) (acc : St F) :
    (stAt0 m c t.val t.isLt acc).2.2.2.2.2.2 = lout m c t acc := by
  unfold lout gout mout cin gin min' lin
  rcases kinds t with ⟨h0, h1, h2, h3⟩ | ⟨h0, h1, h2, h3⟩ | ⟨h0, h1, h2, h3⟩ | ⟨h0, h1, h2, h3⟩ | ⟨h0, h1, h2, h3⟩
  all_goals first
    | rw [stAt0_A m c t acc h0 h1 h2 h3] | rw [stAt0_B m c t acc h0 h1 h2 h3] | rw [stAt0_C m c t acc h0 h1 h2 h3]
    | rw [stAt0_D m c t acc h0 h1 h2 h3] | rw [stAt0_E m c t acc h0 h1 h2 h3]
  all_goals frame_out
  all_goals simp only [h0, h1, h2, if_true, if_false, read0, read1, read2, read3]
  all_goals try rw [View.readCov_cons_toLoadRect, View.readCov_cons_toLoadRect]
  all_goals rfl

/-- The loss that the last point writes. -/
theorem point_loss (c : Dev nD) (t : Fin cfg0.N) (acc : St F) (ht : t.val % 8 = 7) :
    (stAt0 m c t.val t.isLt acc).2.2.1 = k0_pay4 (lout m c t acc) := by
  have h0 : ¬ t.val % 4 = 0 := by omega
  have h1 : ¬ t.val % 8 = 0 := by omega
  have h2 : t.val % 4 = 3 := by omega
  unfold lout gout mout cin gin min' lin
  rw [stAt0_E m c t acc h0 h1 h2 ht]
  frame_out
  simp only [h0, h1, h2, if_true, if_false, read0, read1, read2, read3]
  rw [View.readCov_cons_toLoadRect, View.readCov_cons_toLoadRect]
  rfl

end generic

end Cert.Moe.Kernel

end
-- ==== Proof.KFold.lean ====
module

public import proofs.«01_k».proof.Proof.KPoint

@[expose] public section

set_option maxRecDepth 16384

/-! # What the grid computes

The counts, sums and loss after each grid point, and the dispatch and combine blocks that the point writes, over real
tokens and weights. -/

noncomputable section

namespace Cert.Moe

open Idealize.ShloMosaic

/-- The gates of every token. -/
def pr (x : Fin 2 → Fin 2048 → Fin 1024 → ℝ) (w : Fin 1024 → Fin 16 → ℝ) (b : Fin 2) (i : ℕ) (e : Fin 16) : ℝ :=
  gate (fun e => ∑ k, x b (Fin.ofNat 2048 i) k * w k e) e

/-- Every gate is positive. -/
theorem pr_pos (x : Fin 2 → Fin 2048 → Fin 1024 → ℝ) (w : Fin 1024 → Fin 16 → ℝ) (b : Fin 2) (i : ℕ) (e : Fin 16) :
    0 < pr x w b i e := gate_pos _ _

end Cert.Moe

namespace Cert.Moe.Kernel

open Idealize.ShloMosaic Idealize.ShloMosaic.TcCoe Idealize.SL.Sem Cert.KernelIdeal Cert.KernelIdeal.Gen Cert.KernelIdeal.Value

variable {m : (ℓ : Loc nD τ sig) → Buf (Elt Ideal) ℓ} {c : Dev nD}
  {x : Fin 2 → Fin 2048 → Fin 1024 → ℝ} {w : Fin 1024 → Fin 16 → ℝ}
  (hx : ∀ b i k, m ((c : Thread nD τ).loc main_arg0) (ix3 b i k) = ((x b i k : ℝ) : EReal))
  (hw : ∀ k e, m ((c : Thread nD τ).loc main_arg1) (ix2 k e) = ((w k e : ℝ) : EReal))

/-- The batch row of a grid point. -/
def bat (t : ℕ) : Fin 2 := Fin.ofNat 2 (t / 4)

/-- The first lane of a scratch buffer, at an entry. -/
theorem col_apply {F : FTy → Type} [FloatOps F] (A : Vec F S16x128 .f32) (e : Fin 16) : col A (ix2 e 0) = A (ix2 e 0) := by
  pointwise [col]

/-- The stored zeros. -/
theorem col5 (e : Fin 16) : col (F := Ideal) (k0_pay5 (F := Ideal)) (ix2 e 0) = ((0 : ℝ) : EReal) := by
  rw [col_apply]; pointwise [k0_pay5]; exact EReal.coe_zero.symm
/-- The zeros stored for the sums of gates. -/
theorem col6 (e : Fin 16) : col (F := Ideal) (k0_pay6 (F := Ideal)) (ix2 e 0) = ((0 : ℝ) : EReal) := by
  rw [col_apply]; pointwise [k0_pay6]; exact EReal.coe_zero.symm
/-- The zeros stored for the sums of masks. -/
theorem col7 (e : Fin 16) : col (F := Ideal) (k0_pay7 (F := Ideal)) (ix2 e 0) = ((0 : ℝ) : EReal) := by
  rw [col_apply]; pointwise [k0_pay7]; exact EReal.coe_zero.symm
/-- The zero stored for the loss. -/
theorem zero8 : (k0_pay8 (F := Ideal)) (ix2 0 0) = ((0 : ℝ) : EReal) := by
  pointwise [k0_pay8]
  exact EReal.coe_zero.symm

/-- The lanes' places in the point's block. -/
theorem bm_apply (t : Fin cfg0.N) (l : Fin 2560) : bm m c t (ix2 0 l) = ((((l : ℕ) % 160 : ℕ) : ℝ) : EReal) := by
  rw [← block_cmod m c t 0 l]
  pointwise [bm, row]

include hx hw

/-- The gates of the point's tokens. -/
theorem block_gates (t : Fin cfg0.N) (e : Fin 16) (s : Fin 512) :
    gates (F := Ideal) (bx m c t) (bw m c t) (ix2 e s) = ((pr x w (bat t) (512 * (t % 4) + s) e : ℝ) : EReal) :=
  gates_apply (bx m c t) (bw m c t) (fun s k => x (bat t) (Fin.ofNat 2048 (512 * (t % 4) + s)) k) w
    (fun s k => (block_x m c t s k).trans (hx _ _ _)) (fun k e => (block_w m c t k e).trans (hw _ _)) e s

/-- The batch row's part of the loss that is in after `n` points. -/
def done (p : Fin 2 → ℕ → Fin 16 → ℝ) (n : ℕ) : ℝ := (if 4 ≤ n then part p 0 else 0) + if 8 ≤ n then part p 1 else 0

omit hx hw in
theorem done_last (p : Fin 2 → ℕ → Fin 16 → ℝ) (t : ℕ) (ht : t < 8) (h : t % 4 = 3) :
    done p (t + 1) = done p t + part p (bat t) := by
  have : t = 3 ∨ t = 7 := by omega
  rcases this with rfl | rfl <;> simp [done, bat] <;> rfl

omit hx hw in
theorem done_else (p : Fin 2 → ℕ → Fin 16 → ℝ) (t : ℕ) (ht : t < 8) (h : ¬ t % 4 = 3) : done p (t + 1) = done p t := by
  unfold done
  rw [if_congr (show 4 ≤ t + 1 ↔ 4 ≤ t by omega) rfl rfl, if_congr (show 8 ≤ t + 1 ↔ 8 ≤ t by omega) rfl rfl]

/-- What a grid point starts from. -/
structure Start (p : Fin 2 → ℕ → Fin 16 → ℝ) (t : ℕ) (acc : St Ideal) : Prop where
  cnt : ∀ e, cin t acc (ix2 e 0) = ((cnt p (bat t) (512 * (t % 4)) e : ℝ) : EReal)
  gsum : ∀ e, gin t acc (ix2 e 0) = ((gsum p (bat t) (512 * (t % 4)) e : ℝ) : EReal)
  msum : ∀ e, min' t acc (ix2 e 0) = ((msum p (bat t) (512 * (t % 4)) e : ℝ) : EReal)
  loss : lin t acc (ix2 0 0) = ((done p t : ℝ) : EReal)

/-- What a grid point leaves. -/
structure Left (p : Fin 2 → ℕ → Fin 16 → ℝ) (t : ℕ) (acc : St Ideal) : Prop where
  cnt : ∀ e, acc.2.2.2.1 (ix2 e 0) = ((cnt p (bat t) (512 * (t % 4) + 512) e : ℝ) : EReal)
  gsum : ∀ e, acc.2.2.2.2.1 (ix2 e 0) = ((gsum p (bat t) (512 * (t % 4) + 512) e : ℝ) : EReal)
  msum : ∀ e, acc.2.2.2.2.2.1 (ix2 e 0) = ((msum p (bat t) (512 * (t % 4) + 512) e : ℝ) : EReal)
  loss : acc.2.2.2.2.2.2 (ix2 0 0) = ((done p (t + 1) : ℝ) : EReal)
  disp : ∀ s l, acc.1 (ix3 0 s l) = ((disp p (bat t) (512 * (t % 4) + s) (Fin.ofNat 16 ((l : ℕ) / 160)) (l % 160) : ℝ) : EReal)
  comb : ∀ s l, acc.2.1 (ix3 0 s l) = ((comb p (bat t) (512 * (t % 4) + s) (Fin.ofNat 16 ((l : ℕ) / 160)) (l % 160) : ℝ) : EReal)

omit hx hw in
/-- The first point starts from zeros. -/
theorem start_zero (p : Fin 2 → ℕ → Fin 16 → ℝ) (acc : St Ideal) : Start p 0 acc where
  cnt e := (col5 e).trans (by simp [Moe.cnt])
  gsum e := (col6 e).trans (by simp [Moe.gsum])
  msum e := (col7 e).trans (by simp [Moe.msum])
  loss := zero8.trans (by simp [done])

omit hx hw in
/-- Each later point starts from what the point before left, or from zeros at the start of a batch row. -/
theorem start_succ (p : Fin 2 → ℕ → Fin 16 → ℝ) (n : ℕ) (acc : St Ideal) (h : Left p n acc) (hn : n + 1 < 8) :
    Start p (n + 1) acc := by
  have hl : lin (n + 1) acc (ix2 0 0) = ((done p (n + 1) : ℝ) : EReal) := by
    unfold lin
    rw [if_neg (by omega)]
    exact h.loss
  by_cases h4 : (n + 1) % 4 = 0
  · refine ⟨fun e => ?_, fun e => ?_, fun e => ?_, hl⟩
    · unfold cin; rw [if_pos h4, h4]; exact (col5 e).trans (by simp [Moe.cnt])
    · unfold gin; rw [if_pos h4, h4]; exact (col6 e).trans (by simp [Moe.gsum])
    · unfold min'; rw [if_pos h4, h4]; exact (col7 e).trans (by simp [Moe.msum])
  · have hN : 512 * ((n + 1) % 4) = 512 * (n % 4) + 512 := by omega
    have hb : bat (n + 1) = bat n := by
      unfold bat
      rw [show (n + 1) / 4 = n / 4 by omega]
    refine ⟨fun e => ?_, fun e => ?_, fun e => ?_, hl⟩
    · unfold cin; rw [if_neg h4, hN, hb, col_apply]; exact h.cnt e
    · unfold gin; rw [if_neg h4, hN, hb, col_apply]; exact h.gsum e
    · unfold min'; rw [if_neg h4, hN, hb, col_apply]; exact h.msum e

/-- The places of the point's tokens. -/
theorem block_places (t : Fin cfg0.N) (acc : St Ideal) (h : Start (pr x w) t acc) (e : Fin 16) (s : Fin 512) :
    places (F := Ideal) (bx m c t) (bw m c t) (cin t acc) (bt m c t) (ix2 e s)
      = ((cnt (pr x w) (bat t) (512 * (t % 4) + s) e : ℝ) : EReal) := by
  rw [cnt_add (pr x w) (bat t) _ s e (le_of_lt s.isLt)]
  exact places_apply (block_gates hx hw t) (cin t acc) (bt m c t) _ h.cnt (block_tri m c t) e s

/-- The masks of the point's tokens. -/
theorem block_masks (t : Fin cfg0.N) (acc : St Ideal) (h : Start (pr x w) t acc) (e : Fin 16) (s : Fin 512) :
    masks (F := Ideal) (bx m c t) (bw m c t) (cin t acc) (bt m c t) (ix2 e s)
      = ((msk (pr x w) (bat t) (512 * (t % 4) + s) e : ℝ) : EReal) :=
  masks_apply (block_gates hx hw t) (block_places hx hw t acc h) e s

/-- After a block the sums of gates cover its tokens too. -/
theorem block_gout (t : Fin cfg0.N) (acc : St Ideal) (h : Start (pr x w) t acc) (e : Fin 16) :
    gout m c t acc (ix2 e 0) = ((gsum (pr x w) (bat t) (512 * (t % 4) + 512) e : ℝ) : EReal) := by
  pointwise [gout, k0_pay1, k0_pay31]
  simp only [h.gsum, block_gates hx hw t, coe_sum]
  rw [← EReal.coe_add]
  exact congrArg _ (sum_block _ _).symm

/-- After a block the sums of masks cover its tokens too. -/
theorem block_mout (t : Fin cfg0.N) (acc : St Ideal) (h : Start (pr x w) t acc) (e : Fin 16) :
    mout m c t acc (ix2 e 0) = ((msum (pr x w) (bat t) (512 * (t % 4) + 512) e : ℝ) : EReal) := by
  pointwise [mout, k0_pay2]
  simp only [h.msum, block_masks hx hw t acc h, coe_sum]
  rw [← EReal.coe_add]
  exact congrArg _ (sum_block _ _).symm

/-- After a block the loss covers the batch rows finished so far. -/
theorem block_lout (t : Fin cfg0.N) (acc : St Ideal) (h : Start (pr x w) t acc) :
    lout m c t acc (ix2 0 0) = ((done (pr x w) (t + 1) : ℝ) : EReal) := by
  have ht : (t : ℕ) < 8 := t.isLt
  unfold lout
  by_cases h3 : t.val % 4 = 3
  · rw [if_pos h3, done_last _ _ ht h3]
    have hN : 512 * (t.val % 4) + 512 = 2048 := by omega
    pointwise [k0_pay3]
    simp only [h.loss, block_gout hx hw t acc h, block_mout hx hw t acc h, hN, ← EReal.coe_mul, coe_sum]
    rw [← EReal.coe_add]
    simp [part]
  · rw [if_neg h3, done_else _ _ ht h3]
    exact h.loss

omit hx hw in
theorem lane (l : Fin 2560) : (l : ℕ) / 160 = (Fin.ofNat 16 ((l : ℕ) / 160) : Fin 16) := by
  simp only [Fin.ofNat]; omega

/-- One grid point. -/
theorem step (t : Fin cfg0.N) (acc : St Ideal) (h : Start (pr x w) t acc) :
    Left (pr x w) t (stAt0 m c t.val t.isLt acc) where
  cnt e := by
    rw [point_cnt, counts_apply (block_gates hx hw t) _ e, h.cnt, ← EReal.coe_add]
    exact congrArg _ (sum_block _ _).symm
  gsum e := by rw [point_gsum, block_gout hx hw t acc h]
  msum e := by rw [point_msum, block_mout hx hw t acc h]
  loss := by rw [point_lacc, block_lout hx hw t acc h]
  disp s l := by
    rw [point_disp]
    exact dispatch_apply (block_gates hx hw t) (block_places hx hw t acc h) (block_smat m c t) (bm_apply t)
      (fun e s => pr_pos x w _ _ e) s l _ (lane l)
  comb s l := by
    rw [point_comb]
    exact combine_apply (block_gates hx hw t) (block_places hx hw t acc h) (block_smat m c t) (bm_apply t)
      (fun e s => pr_pos x w _ _ e) s l _ (lane l)

/-- After every grid point. -/
theorem after_point (n : ℕ) (hn : n < cfg0.N) : Left (pr x w) n (outsAt0 m c n hn) := by
  induction n with
  | zero =>
    rw [outsAt0_zero]
    exact step hx hw ⟨0, hn⟩ _ (start_zero _ _)
  | succ n ih =>
    rw [outsAt0_succ]
    exact step hx hw ⟨n + 1, hn⟩ _ (start_succ _ n _ (ih _) hn)

omit hx hw in
/-- The point that holds a token. -/
theorem at_point (b : Fin 2) (i : Fin 2048) (l : Fin 2560) : pt5Of (ix3 b i l) = 4 * (b : ℕ) + i / 512 := by
  simp [pt5Of, run5Of]

omit hx hw in
/-- The token's place in the point's block. -/
theorem at_place (b : Fin 2) (i : Fin 2048) (l : Fin 2560) :
    loc5Of (ix3 b i l) = ix3 0 (Fin.ofNat 512 (i % 512)) l := by
  funext a
  match a with
  | ⟨0, _⟩ => exact Fin.ext (show (b : ℕ) % 1 = 0 by omega)
  | ⟨1, _⟩ => exact Fin.ext (show (i : ℕ) % 512 = i % 512 % 512 by omega)
  | ⟨2, _⟩ => exact Fin.ext (show (l : ℕ) % 2560 = l by omega)

omit hx hw in
theorem bat_of (b : Fin 2) (i : Fin 2048) : bat (4 * (b : ℕ) + i / 512) = b := by
  unfold bat; apply Fin.ext; simp only [Fin.ofNat]; omega

omit hx hw in
theorem token_of (b : Fin 2) (i : Fin 2048) :
    512 * ((4 * (b : ℕ) + i / 512) % 4) + (Fin.ofNat 512 (i % 512) : Fin 512) = (i : ℕ) := by
  simp only [Fin.ofNat]; omega

/-- The first array the kernel returns is the dispatch mask. -/
theorem array_disp (b : Fin 2) (i : Fin 2048) (l : Fin 2560) :
    G5 m c (ix3 b i l) = ((disp (pr x w) b i (Fin.ofNat 16 ((l : ℕ) / 160)) (l % 160) : ℝ) : EReal) := by
  have hp : pt5Of (ix3 b i l) = 4 * (b : ℕ) + i / 512 := at_point b i l
  have hN : pt5Of (ix3 b i l) < cfg0.N := by rw [hp]; exact (show 4 * (b : ℕ) + i / 512 < 8 by omega)
  have hloc : loc5Of (ix3 b i l) = ix3 0 (Fin.ofNat 512 (i % 512)) l := at_place b i l
  unfold G5
  rw [dif_pos hN, ← outsAt0_sweep m c _ hN, hloc, (after_point hx hw _ hN).disp, hp, bat_of, token_of]

/-- The second array the kernel returns holds the combining weights. -/
theorem array_comb (b : Fin 2) (i : Fin 2048) (l : Fin 2560) :
    G6 m c (ix3 b i l) = ((comb (pr x w) b i (Fin.ofNat 16 ((l : ℕ) / 160)) (l % 160) : ℝ) : EReal) := by
  have hp : pt6Of (ix3 b i l) = 4 * (b : ℕ) + i / 512 := at_point b i l
  have hN : pt6Of (ix3 b i l) < cfg0.N := by rw [hp]; exact (show 4 * (b : ℕ) + i / 512 < 8 by omega)
  have hloc : loc6Of (ix3 b i l) = ix3 0 (Fin.ofNat 512 (i % 512)) l := at_place b i l
  unfold G6
  rw [dif_pos hN, ← outsAt0_sweep m c _ hN, hloc, (after_point hx hw _ hN).comb, hp, bat_of, token_of]

/-- The third array the kernel returns is the balancing loss. -/
theorem array_loss (j) : G7 m c j = ((loss (pr x w) : ℝ) : EReal) := by
  have h7 : 7 < cfg0.N := lt_of_lt_of_eq (by decide) N_0.symm
  have h6 : 6 < cfg0.N := lt_of_lt_of_eq (by decide) N_0.symm
  have hj : j = (ix2 0 0 : S1x1.Idx) := by
    funext a
    match a with
    | ⟨0, _⟩ => exact Subsingleton.elim (α := Fin 1) _ _
    | ⟨1, _⟩ => exact Subsingleton.elim (α := Fin 1) _ _
  rw [G7_last, ← outsAt0_sweep m c 7 h7, outsAt0_succ m c 6 h7, hj, point_loss m c ⟨7, h7⟩ _ rfl]
  have hl := block_lout hx hw ⟨7, h7⟩ _ (start_succ _ 6 _ (after_point hx hw 6 h6) (by decide))
  pointwise [k0_pay4]
  rw [ofBits_scale]
  refine (congrArg (fun z : EReal => z * ((1 / 524288 : ℝ) : EReal)) hl).trans ?_
  beta_reduce
  rw [← EReal.coe_mul]
  simp [done, loss]

end Cert.Moe.Kernel

end
-- ==== Proof.RefTerm.lean ====
module

public import proofs.«01_k».proof.Proof.Gen.ReferenceIdeal
public import proofs.«01_k».proof.Defs
public import Idealize.ShloMosaic.Lib.Claim

@[expose] public section

set_option maxRecDepth 16384

/-! # The reference, stage by stage

Each stage of the reference as an array of the arrays it reads, and the three results as the stages composed. -/

noncomputable section

namespace Cert.Moe.Ref

open Idealize.ShloMosaic Idealize.ShloMosaic.TcCoe Idealize.SL.Sem Cert.ReferenceIdeal Cert.ReferenceIdeal.Facts₀ Cert.ReferenceIdeal.Facts

variable [Cert.ReferenceIdeal.Facts]

/-- An array over batch row, token and expert. -/
abbrev Arr := FVec Ideal S2x2048x16 .f32

/-- The number held by every entry. -/
def all (a : BitVec 32) : Arr := broadcastInDim S2x2048x16 ![] bcast_S_S2x2048x16 (constant S_ .f32 a)

/-- The word held by every entry. -/
def allI (a : BitVec 32) : IVec S2x2048x16 32 := broadcastInDim S2x2048x16 ![] bcast_S_S2x2048x16 (constantI S_ 32 a)

/-- A row of one number a token, repeated along the experts. -/
def spread {α : Type} (x : S2x2048.Idx → α) : S2x2048x16.Idx → α :=
  broadcastInDim S2x2048x16 ![0, 1, 2] bcast_S2x2048x1_S2x2048x16_0_1_2
    (broadcastInDim S2x2048x1 ![0, 1] bcast_S2x2048_S2x2048x1_0_1 x)

/-- The sum over the experts. -/
def total (x : Arr) : FVec Ideal S2x2048 .f32 :=
  Host.reduceAdd x (constant S_ .f32 0x00000000#32) reducesTo_S2x2048x16_S2x2048_d2 h_S_

/-- The routing scores. -/
def scores (X : FVec Ideal S2x2048x1024 .f32) (W : FVec Ideal S1024x16 .f32) : Arr :=
  Host.dotGeneral dot_S2x2048x1024_S1024x16_S2x2048x16_2_0_01_1_n_n none X W

/-- The largest score of a token. -/
def peak (l : Arr) : FVec Ideal S2x2048 .f32 :=
  maximumf (broadcastInDim S2x2048 ![] bcast_S_S2x2048 (constant S_ .f32 0xFF800000#32))
    (Host.reduce FloatOps.maximumf l (constant S_ .f32 0xFF800000#32) reducesTo_S2x2048x16_S2x2048_d2 h_S_)

/-- The exponentials of the scores less the largest. -/
def expo (l : Arr) : Arr := Host.exp (subf l (spread (peak l)))

/-- The gates. -/
def gates (l : Arr) : Arr := Host.divf (expo l) (spread (total (expo l)))

/-- The expert at each rank. -/
def order (g : Arr) : IVec S2x2048x16 32 :=
  (Host.sort2 S2x2048x16 2 comparator_f32_i32_d2 (Host.negf g) (iotaInDim S2x2048x16 32 2)).2

/-- The rank of each expert. -/
def ranks (o : IVec S2x2048x16 32) : IVec S2x2048x16 32 :=
  (Host.sort2 S2x2048x16 2 comparator_i32_i32_d2 o (iotaInDim S2x2048x16 32 2)).2

/-- A position along the experts, counted from the end where it is negative. -/
def place (o : IVec S2x2048x16 32) : IVec S2x2048x16x1 32 :=
  shapeCast _ (select (cmpi .slt o (allI 0#32)) (addi o (allI 16#32)) o) shapeCasts_S2x2048x16_S2x2048x16x1

/-- Whether a position lies along the experts. -/
def inside (q : IVec S2x2048x16x1 32) : IVec S2x2048x16 1 :=
  Host.reduce IntOp.andi
    (andi (cmpi .sge q (broadcastInDim S2x2048x16x1 ![] bcast_S_S2x2048x16x1 (constantI S_ 32 0#32)))
      (cmpi .sle q (broadcastInDim S2x2048x16x1 ![0, 1, 2, 3] bcast_S1x1x1x1_S2x2048x16x1_0_1_2_3
        (broadcastInDim S1x1x1x1 ![3] bcast_S1_S1x1x1x1_3 (constantI S1 32 15#32)))))
    (constantI S_ 1 1#1) reducesTo_S2x2048x16x1_S2x2048x16_d3 h_S_

/-- The entries of an array read at positions along the experts. -/
def take (x : Arr) (o : IVec S2x2048x16 32) : Arr :=
  select (inside (place o)) (Host.gather gather_S2x2048x16_S2x2048x16x1_S2x2048x16_n_2_01_01_2_3_111 x (place o))
    (all 0x7FC00000#32)

/-- A zero, as the running sums start from. -/
def nil : FVec Ideal S_ .f32 := broadcastInDim S_ ![] bcast_S_S_ (constant S_ .f32 0x00000000#32)

/-- The running sum along the experts. -/
def along (s : Arr) : Arr :=
  Host.reduceWindowAdd ![1, 1, 16] ![1, 1, 1] ![0, 0, 15] ![0, 0, 0] s nil
    reduceWindows_S2x2048x16_S2x2048x16_w1s1p0_0_w1s1p0_0_w16s1p15_0 h_S_

/-- The running sum along the tokens. -/
def down (s : Arr) : Arr :=
  Host.reduceWindowAdd ![1, 2048, 1] ![1, 1, 1] ![0, 2047, 0] ![0, 0, 0] s nil
    reduceWindows_S2x2048x16_S2x2048x16_w1s1p0_0_w2048s1p2047_0_w1s1p0_0 h_S_

/-- Where the running sum of the ranked gates has reached the threshold. -/
def reached (s : Arr) : IVec S2x2048x16 1 := cmpf .oge (along s) (all 0x3F4CCCCD#32)

/-- The first rank holding the largest of the given bits. -/
def first (b : IVec S2x2048x16 1) : IVec S2x2048 32 :=
  fun j => (Host.argReduce reducer_argmax_f32_i32 (uitofp (F := Ideal) .f32 b) (iotaInDim S2x2048x16 32 2)
    (constant S_ .f32 0xFF800000#32) (constantI S_ 32 0#32) reducesTo_S2x2048x16_S2x2048_d2 h_S_ j).2

/-- How many experts a token chooses. -/
def many (b : IVec S2x2048x16 1) : IVec S2x2048 32 :=
  select (noti (Host.reduce IntOp.ori b (constantI S_ 1 0#1) reducesTo_S2x2048x16_S2x2048_d2 h_S_))
    (broadcastInDim S2x2048 ![] bcast_S_S2x2048 (id (constantI S_ 32 16#32)))
    (addi (first b) (broadcastInDim S2x2048 ![] bcast_S_S2x2048 (constantI S_ 32 1#32)))

/-- One at each chosen rank. -/
def chosen (k : IVec S2x2048 32) : Arr :=
  uitofp .f32 (cmpi .slt
    (broadcastInDim S2x2048x16 ![0, 1, 2] bcast_S1x1x16_S2x2048x16_0_1_2
      (broadcastInDim S1x1x16 ![2] bcast_S16_S1x1x16_2 (iotaInDim S16 32 0)))
    (spread k))

/-- The weights of the chosen ranks. -/
def shares (s h : Arr) : Arr := mulf (Host.divf s (spread (total (mulf s h)))) h

/-- The position of a token among those of its expert. -/
def queue (a : Arr) : Arr := mulf (subf (down a) a) a

/-- One where a token is kept by an expert. -/
def kept (a : Arr) : Arr := mulf a (uitofp .f32 (cmpf .olt (queue a) (all 0x43200000#32)))

/-- The capacity slot of a token. -/
def slot (a : Arr) : IVec S2x2048 32 := fptosi 32 (total (mulf (queue a) (kept a)))

/-- One column a token. -/
def column (p : IVec S2x2048 32) : IVec S2x2048x1 32 := broadcastInDim S2x2048x1 ![0, 1] bcast_S2x2048_S2x2048x1_0_1 p

/-- One at the slot of a token. -/
def hot (p : IVec S2x2048 32) : FVec Ideal S2x2048x160 .f32 :=
  uitofp .f32 (cmpi .eq (broadcastInDim S2x2048x160 ![0, 1, 2] bcast_S2x2048x1_S2x2048x160_0_1_2 (column p))
    (broadcastInDim S2x2048x160 ![0, 1, 2] bcast_S1x1x160_S2x2048x160_0_1_2 (iotaInDim S1x1x160 32 2)))

/-- One where a token is kept and its slot is within capacity. -/
def valid (k : Arr) (p : IVec S2x2048 32) : Arr :=
  uitofp .f32 (andi (cmpf .ogt k (all 0x00000000#32))
    (broadcastInDim S2x2048x16 ![0, 1, 2] bcast_S2x2048x1_S2x2048x16_0_1_2
      (cmpi .slt (column p) (broadcastInDim S2x2048x1 ![] bcast_S_S2x2048x1 (constantI S_ 32 160#32)))))

/-- An array over the experts, repeated along the slots. -/
def wide (x : Arr) : FVec Ideal S2x2048x16x160 .f32 :=
  broadcastInDim S2x2048x16x160 ![0, 1, 2, 3] bcast_S2x2048x16x1_S2x2048x16x160_0_1_2_3
    (broadcastInDim S2x2048x16x1 ![0, 1, 2] bcast_S2x2048x16_S2x2048x16x1_0_1_2 x)

/-- The dispatch array over expert and slot. -/
def dispatch (a : Arr) : FVec Ideal S2x2048x16x160 .f32 :=
  mulf (wide (valid (kept a) (slot a)))
    (broadcastInDim S2x2048x16x160 ![0, 1, 2, 3] bcast_S2x2048x1x160_S2x2048x16x160_0_1_2_3
      (broadcastInDim S2x2048x1x160 ![0, 1, 3] bcast_S2x2048x160_S2x2048x1x160_0_1_3 (hot (slot a))))

/-- The mean over the tokens. -/
def mean (x : Arr) : FVec Ideal S2x16 .f32 :=
  Host.divf (Host.reduceAdd x (constant S_ .f32 0x00000000#32) reducesTo_S2x2048x16_S2x16_d1 h_S_)
    (broadcastInDim S2x16 ![] bcast_S_S2x16 (constant S_ .f32 0x45000000#32))

/-- The balance part of the loss. -/
def balance (g k : Arr) : FVec Ideal S_ .f32 :=
  mulf (Host.divf (Host.reduceAdd (mulf (mean g) (mean k)) (constant S_ .f32 0x00000000#32) reducesTo_S2x16_S_d0_1 h_S_)
    (constant S_ .f32 0x42000000#32)) (constant S_ .f32 0x43800000#32)

/-- The mean number of chosen experts. -/
def average (n : IVec S2x2048 32) : FVec Ideal S_ .f32 :=
  Host.divf (Host.reduceAdd (sitofp .f32 n) (constant S_ .f32 0x00000000#32) reducesTo_S2x2048_S_d0_1 h_S_)
    (constant S_ .f32 0x45800000#32)

section Composed

variable (X : FVec Ideal S2x2048x1024 .f32) (W : FVec Ideal S1024x16 .f32)

/-- The gates of the arguments. -/
def gatesOf : Arr := gates (scores X W)

/-- The ranked gates. -/
def ranked : Arr := take (gatesOf X W) (order (gatesOf X W))

/-- The number of chosen experts of each token. -/
def manyOf : IVec S2x2048 32 := many (reached (ranked X W))

/-- The rank of each expert. -/
def ranksOf : IVec S2x2048x16 32 := ranks (order (gatesOf X W))

/-- One at each chosen expert. -/
def mask : Arr := take (chosen (manyOf X W)) (ranksOf X W)

/-- The weight of each expert. -/
def weight : Arr := take (shares (ranked X W) (chosen (manyOf X W))) (ranksOf X W)

/-- The first result. -/
def disp : FVec Ideal S2x2048x2560 .f32 :=
  shapeCast _ (dispatch (mask X W)) shapeCasts_S2x2048x16x160_S2x2048x2560

/-- The second result. -/
def comb : FVec Ideal S2x2048x2560 .f32 :=
  shapeCast _ (mulf (dispatch (mask X W)) (wide (weight X W))) shapeCasts_S2x2048x16x160_S2x2048x2560

/-- The third result. -/
def loss : FVec Ideal S1x1 .f32 :=
  shapeCast _ (addf (balance (gatesOf X W) (kept (mask X W)))
    (mulf (constant S_ .f32 0x00000000#32) (average (manyOf X W)))) shapeCasts_S_S1x1

end Composed

set_option maxRecDepth 200000 in
set_option maxHeartbeats 4000000 in
/-- Every execution of the reference ends with the three composed stages in its results and the arguments as they were. -/
theorem run (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ (fun r => ∀ c : Dev nD,
      r.2.mem ((c.tc : Thread nD τ).loc main_v83) = disp (m ((c.tc : Thread nD τ).loc main_arg0)) (m ((c.tc : Thread nD τ).loc main_arg1))
      ∧ r.2.mem ((c.tc : Thread nD τ).loc main_v84) = comb (m ((c.tc : Thread nD τ).loc main_arg0)) (m ((c.tc : Thread nD τ).loc main_arg1))
      ∧ r.2.mem ((c.tc : Thread nD τ).loc main_v85) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals simp only [StableHlo.TRef.ofBuf_toBuf]
  all_goals simp only [StableHlo.TRef.ofBuf, StableHlo.TRef.toBuf, cast_eq]
  all_goals rfl

end Cert.Moe.Ref

end
-- ==== Proof.RefTake.lean ====
module

public import proofs.«01_k».proof.Proof.RefTerm
public import proofs.«01_k».proof.Proof.KHost

@[expose] public section

set_option maxRecDepth 16384

/-! # Reading along the experts at computed positions -/

noncomputable section

namespace Cert.Moe.Ref

open Idealize.ShloMosaic Idealize.ShloMosaic.TcCoe Idealize.SL.Sem Cert.ReferenceIdeal Cert.ReferenceIdeal.Facts₀ Cert.ReferenceIdeal.Facts

/-- An index below sixteen is not negative, so it stays. -/
theorem place_word : ∀ r : Fin 16, Scalar.select (IntOp.cmpi .slt (BitVec.ofNat 32 r) 0#32)
    (IntOp.addi (BitVec.ofNat 32 r) 16#32) (BitVec.ofNat 32 r) = BitVec.ofNat 32 r := by decide

/-- An index below sixteen is within range. -/
theorem inside_word : ∀ r : Fin 16, IntOp.andi (IntOp.cmpi .sge (BitVec.ofNat 32 r) 0#32)
    (IntOp.cmpi .sle (BitVec.ofNat 32 r) 15#32) = 1#1 := by decide

variable {o : IVec S2x2048x16 32} {σ : Fin 2 → Fin 2048 → Fin 16 → Fin 16}

/-- The index that the gather uses is the order's. -/
theorem place_at (ho : ∀ b i r, o (ix3 b i r) = BitVec.ofNat 32 (σ b i r)) (b : Fin 2) (i : Fin 2048) (r : Fin 16) (z : Fin 1) :
    place o (ix4 b i r z) = BitVec.ofNat 32 (σ b i r) := by
  pointwise [place, allI]
  rw [ho]
  exact place_word _

/-- Every index of the gather is within range. -/
theorem inside_at (ho : ∀ b i r, o (ix3 b i r) = BitVec.ofNat 32 (σ b i r)) (b : Fin 2) (i : Fin 2048) (r : Fin 16) :
    inside (place o) (ix3 b i r) = 1#1 := by
  pointwise [inside]
  simp only [place_at ho, inside_word]
  rfl

/-- The gather's dimensions. -/
abbrev G : GatherDims S2x2048x16 S2x2048x16x1 S2x2048x16 := gather_S2x2048x16_S2x2048x16x1_S2x2048x16_n_2_01_01_2_3_111

/-- The gather's batch coordinate on the first axis. -/
theorem batch0 (b : Fin 2) (i : Fin 2048) (r : Fin 16) : GatherDims.batchCoord G (ix3 b i r) 0 = b := rfl
/-- The gather's batch coordinate on the second axis. -/
theorem batch1 (b : Fin 2) (i : Fin 2048) (r : Fin 16) : GatherDims.batchCoord G (ix3 b i r) 1 = i := rfl
/-- The third axis is no batch axis. -/
theorem batch2 (b : Fin 2) (i : Fin 2048) (r : Fin 16) : GatherDims.batchCoord G (ix3 b i r) 2 = 0 := rfl
/-- The gather's slices have one entry. -/
theorem off (b : Fin 2) (i : Fin 2048) (r : Fin 16) (a : Fin 3) : GatherDims.offCoord G (ix3 b i r) a = 0 := by
  fin_cases a <;> rfl
/-- The gather starts at zero on the first axis. -/
theorem start0 (q : IVec S2x2048x16x1 32) (b : Fin 2) (i : Fin 2048) (r : Fin 16) : GatherDims.start G (ix3 b i r) q 0 = 0 := rfl
/-- The gather starts at zero on the second axis. -/
theorem start1 (q : IVec S2x2048x16x1 32) (b : Fin 2) (i : Fin 2048) (r : Fin 16) : GatherDims.start G (ix3 b i r) q 1 = 0 := rfl
/-- The gather starts at the clamped index on the third axis. -/
theorem start2 (q : IVec S2x2048x16x1 32) (b : Fin 2) (i : Fin 2048) (r : Fin 16) :
    GatherDims.start G (ix3 b i r) q 2 = min (q (ix4 b i r 0)).toInt.toNat 15 := by
  have h : GatherDims.siIdx G (ix3 b i r) ⟨0, by decide⟩ = ix4 b i r 0 := by
    funext a
    fin_cases a <;> rfl
  rw [← h]
  rfl

/-- An index below sixteen is not changed by the clamp. -/
theorem clamp_word : ∀ r : Fin 16, min (BitVec.ofNat 32 r).toInt.toNat 15 = (r : ℕ) := by decide

/-- The entries taken along an order, at a rank. -/
theorem take_at (x : Arr) (ho : ∀ b i r, o (ix3 b i r) = BitVec.ofNat 32 (σ b i r)) (b : Fin 2) (i : Fin 2048) (r : Fin 16) :
    take x o (ix3 b i r) = x (ix3 b i (σ b i r)) := by
  have hg : Host.gather gather_S2x2048x16_S2x2048x16x1_S2x2048x16_n_2_01_01_2_3_111 x (place o) (ix3 b i r)
      = x (ix3 b i (σ b i r)) := by
    unfold Host.gather
    congr 1
    funext a
    refine Fin.ext ?_
    change GatherDims.start G (ix3 b i r) (place o) a + GatherDims.batchCoord G (ix3 b i r) a + GatherDims.offCoord G (ix3 b i r) a = _
    rw [off]
    fin_cases a
    · exact congrArg₂ (· + · + 0) (start0 (place o) b i r) (batch0 b i r) |>.trans (Nat.zero_add _)
    · exact congrArg₂ (· + · + 0) (start1 (place o) b i r) (batch1 b i r) |>.trans (Nat.zero_add _)
    · refine (congrArg₂ (· + · + 0) (start2 (place o) b i r) (batch2 b i r)).trans ?_
      change min _ 15 = _
      rw [place_at ho]
      exact clamp_word _
  pointwise [take]
  rw [inside_at ho, hg]
  rfl

end Cert.Moe.Ref

end
-- ==== Proof.RefGate.lean ====
module

public import proofs.«01_k».proof.Proof.RefTerm
public import proofs.«01_k».proof.Proof.KHost
public import proofs.«01_k».proof.Proof.Spec

@[expose] public section

set_option maxRecDepth 16384

/-! # The gates of the reference

What the score, largest-score and gate stages hold over real tokens and weights. -/

noncomputable section

namespace Cert.Moe.Ref

open Idealize.ShloMosaic Idealize.ShloMosaic.TcCoe Idealize.SL.Sem Cert.ReferenceIdeal Cert.ReferenceIdeal.Facts₀ Cert.ReferenceIdeal.Facts

/-- A value per token, repeated over the experts, at an entry. -/
theorem spread_at {α : Type} (x : S2x2048.Idx → α) (b : Fin 2) (i : Fin 2048) (e : Fin 16) :
    spread x (ix3 b i e) = x (ix2 b i) := by
  pointwise [spread]

/-- A constant array at an entry. -/
theorem all_at (a : BitVec 32) (b : Fin 2) (i : Fin 2048) (e : Fin 16) :
    all a (ix3 b i e) = Ideal.ofBits .f32 a := by
  pointwise [all]

/-- The sum over the experts at a token. -/
theorem total_at (x : Arr) (b : Fin 2) (i : Fin 2048) :
    total x (ix2 b i) = ∑ e : Fin 16, x (ix3 b i e) := by
  pointwise [total]

/-- The logits at an entry: a row of tokens against a column of weights. -/
theorem scores_at (X : FVec Ideal S2x2048x1024 .f32) (W : FVec Ideal S1024x16 .f32) (b : Fin 2) (i : Fin 2048) (e : Fin 16) :
    scores X W (ix3 b i e) = ∑ k : Fin 1024, X (ix3 b i k) * W (ix2 k e) := by
  pointwise [scores]

/-- An array of real numbers. -/
def Holds (A : Arr) (f : Fin 2 → Fin 2048 → Fin 16 → ℝ) : Prop := ∀ b i e, A (ix3 b i e) = ((f b i e : ℝ) : EReal)

/-- The sum over the experts of real numbers. -/
theorem total_real {A : Arr} {f : Fin 2 → Fin 2048 → Fin 16 → ℝ} (h : Holds A f) (b : Fin 2) (i : Fin 2048) :
    total A (ix2 b i) = ((∑ e, f b i e : ℝ) : EReal) := by
  rw [total_at, ← coe_sum]
  exact Finset.sum_congr rfl fun e _ => h b i e

/-- The scores of real tokens and weights. -/
theorem scores_real {X : FVec Ideal S2x2048x1024 .f32} {W : FVec Ideal S1024x16 .f32}
    {x : Fin 2 → Fin 2048 → Fin 1024 → ℝ} {w : Fin 1024 → Fin 16 → ℝ}
    (hX : ∀ b i k, X (ix3 b i k) = ((x b i k : ℝ) : EReal)) (hW : ∀ k e, W (ix2 k e) = ((w k e : ℝ) : EReal)) :
    Holds (scores X W) fun b i e => ∑ k, x b i k * w k e := by
  intro b i e
  rw [scores_at, ← coe_sum]
  exact Finset.sum_congr rfl fun k _ => by rw [hX, hW, ← EReal.coe_mul]

variable {l : Arr} {f : Fin 2 → Fin 2048 → Fin 16 → ℝ}

/-- The largest of sixteen real scores. -/
theorem peak_real (h : Holds l f) (b : Fin 2) (i : Fin 2048) : peak l (ix2 b i) = ((top (f b i) : ℝ) : EReal) := by
  pointwise [peak]
  rw [ofBits_negInf, show (fun x => l (ix3 b i x)) = fun e => ((f b i e : ℝ) : EReal) from funext fun e => h b i e,
    fold_max_coe]
  exact max_eq_right bot_le

/-- The exponentials of real logits, less the largest. -/
theorem expo_real (h : Holds l f) (b : Fin 2) (i : Fin 2048) (e : Fin 16) :
    expo l (ix3 b i e) = Ideal.exp ((f b i e : EReal) - (top (f b i) : EReal)) := by
  pointwise [expo]
  rw [h, spread_at, peak_real h]

/-- The gates of real scores. -/
theorem gates_real (h : Holds l f) : Holds (gates l) fun b i => gate (f b i) := by
  intro b i e
  pointwise [gates]
  rw [spread_at, total_at]
  simp only [expo_real h]
  exact softmax_coe (f b i) e

end Cert.Moe.Ref

end
-- ==== Proof.RefSort.lean ====
module

public import proofs.«01_k».proof.Proof.RefGate

@[expose] public section

set_option maxRecDepth 16384

/-! # The two sorts of the reference -/

noncomputable section

namespace Cert.Moe.Ref

open Idealize.ShloMosaic Idealize.ShloMosaic.TcCoe Idealize.SL.Sem Cert.ReferenceIdeal Cert.ReferenceIdeal.Facts₀ Cert.ReferenceIdeal.Facts

/-- The index with its last coordinate replaced. -/
theorem along_ix3 (b : Fin 2) (i : Fin 2048) (r k : Fin 16) :
    Shape.Idx.along (s := S2x2048x16) (ix3 b i r) 2 k = ix3 b i k := by
  funext a
  fin_cases a <;> rfl

/-- The second result of a sort of two arrays along the experts. -/
theorem sort2_at {α β : Type} (cmp : α × β → α × β → BitVec 1) (x : S2x2048x16.Idx → α) (y : S2x2048x16.Idx → β)
    (b : Fin 2) (i : Fin 2048) (r : Fin 16) :
    (Host.sort2 S2x2048x16 2 cmp x y).2 (ix3 b i r)
      = y (ix3 b i (sortedFrom (fun k k' : Fin 16 =>
          cmp (x (ix3 b i k), y (ix3 b i k)) (x (ix3 b i k'), y (ix3 b i k')) == 1#1) r)) := by
  unfold Host.sort2
  rw [dif_pos (by decide)]
  exact congrArg (fun al : Fin 16 → S2x2048x16.Idx => y (al (sortedFrom (fun k k' : Fin 16 =>
    cmp (x (al k), y (al k)) (x (al k'), y (al k')) == 1#1) r))) (funext (along_ix3 b i r))

/-- The comparison of the first sort, on real numbers. -/
theorem comparator_real (x y : ℝ) (u v : BitVec 32) :
    comparator_f32_i32_d2 (F := Ideal) ((x : EReal), u) ((y : EReal), v) = BitVec.ofBool (decide (x < y)) := by
  have h0 : ∀ z : ℝ, Scalar.select (FloatOps.cmpf (F := Ideal) (φ := .f32) .une (z : EReal) (z : EReal))
      (FloatOps.ofBits (F := Ideal) .f32 0x7FC00000#32)
      (Scalar.select (FloatOps.cmpf (F := Ideal) (φ := .f32) .oeq (z : EReal) (FloatOps.ofBits (F := Ideal) .f32 0x00000000#32))
        (FloatOps.ofBits (F := Ideal) .f32 0x00000000#32) (z : EReal)) = (z : EReal) := by
    intro z
    by_cases h : z = 0 <;> simp [Scalar.select, Ideal.cmpf_def, Ideal.cmp, h]
  unfold comparator_f32_i32_d2
  refine (congrArg₂ (FloatOps.cmpfTotal (F := Ideal) (φ := .f32) .lt) (h0 x) (h0 y)).trans ?_
  simp [Ideal.cmpfTotal_def, Ideal.cmpTotal, CmpDirection.ordered, Ideal.cmp]

/-- The order of ranks under a row of gates. -/
def sooner (p : Fin 16 → ℝ) (k k' : Fin 16) : Bool := decide (p k' < p k)

/-- The sort's index at a rank: the expert that comes there by descending gate. -/
theorem order_at {g : Arr} {p : Fin 2 → Fin 2048 → Fin 16 → ℝ} (h : Holds g p) (b : Fin 2) (i : Fin 2048) (r : Fin 16) :
    order g (ix3 b i r) = BitVec.ofNat 32 (sortedFrom (sooner (p b i)) r) := by
  have hR : (fun k k' : Fin 16 => comparator_f32_i32_d2 (F := Ideal)
      (Host.negf g (ix3 b i k), iotaInDim S2x2048x16 32 2 (ix3 b i k))
      (Host.negf g (ix3 b i k'), iotaInDim S2x2048x16 32 2 (ix3 b i k')) == 1#1) = sooner (p b i) := by
    funext k k'
    have hn : ∀ k, Host.negf g (ix3 b i k) = ((-p b i k : ℝ) : EReal) := by
      intro k
      pointwise
      rw [h, EReal.coe_neg]
    rw [hn, hn, comparator_real]
    unfold sooner
    by_cases hc : p b i k' < p b i k <;> simp [hc]
  unfold order
  rw [sort2_at, hR]
  rfl

/-- The inverse permutation at an expert, of an order. -/
theorem ranks_at {o : IVec S2x2048x16 32} {σ : Fin 2 → Fin 2048 → Fin 16 → Fin 16}
    (ho : ∀ b i r, o (ix3 b i r) = BitVec.ofNat 32 (σ b i r)) (b : Fin 2) (i : Fin 2048) (e : Fin 16) :
    ranks o (ix3 b i e) = BitVec.ofNat 32 (sortedFrom (fun k k' => decide (σ b i k < σ b i k')) e) := by
  have hR : (fun k k' : Fin 16 => comparator_i32_i32_d2
      (o (ix3 b i k), iotaInDim S2x2048x16 32 2 (ix3 b i k))
      (o (ix3 b i k'), iotaInDim S2x2048x16 32 2 (ix3 b i k')) == 1#1) = fun k k' => decide (σ b i k < σ b i k') := by
    funext k k'
    unfold comparator_i32_i32_d2
    simp only [ho]
    rw [Kernel.slt_small _ _ (by omega) (by omega)]
    by_cases hc : (σ b i k : ℕ) < σ b i k' <;> simp [hc, Fin.lt_def]
  unfold ranks
  rw [sort2_at, hR]
  rfl

end Cert.Moe.Ref

end
-- ==== Proof.RefCum.lean ====
module

public import proofs.«01_k».proof.Proof.RefGate

@[expose] public section

set_option maxRecDepth 16384

/-! # The running sums of the reference -/

noncomputable section

namespace Cert.Moe.Ref

open Idealize.ShloMosaic Idealize.ShloMosaic.TcCoe Idealize.SL.Sem Cert.ReferenceIdeal Cert.ReferenceIdeal.Facts₀ Cert.ReferenceIdeal.Facts

/-- A window ending at position `i`, of a length that reaches back past the start, adds up the positions up to `i`. -/
theorem sum_window {M : Type} [AddCommMonoid M] (F : ℕ → M) (n i : ℕ) (hi : i ≤ n) :
    (∑ k : Fin (n + 1), if n ≤ i + k then F (i + k - n) else 0) = ∑ k : Fin (n + 1), if (k : ℕ) ≤ i then F k else 0 := by
  rw [Fin.sum_univ_eq_sum_range (fun k => if n ≤ i + k then F (i + k - n) else 0) (n + 1),
    Fin.sum_univ_eq_sum_range (fun k => if k ≤ i then F k else 0) (n + 1)]
  conv_lhs => rw [show n + 1 = (n - i) + (i + 1) by omega, Finset.sum_range_add]
  conv_rhs => rw [show n + 1 = (i + 1) + (n - i) by omega, Finset.sum_range_add]
  rw [Finset.sum_eq_zero (s := Finset.range (n - i)) fun k hk => if_neg (by have := Finset.mem_range.mp hk; omega),
    Finset.sum_eq_zero (s := Finset.range (n - i)) fun k hk => if_neg (by omega), zero_add, add_zero]
  refine Finset.sum_congr rfl fun k hk => ?_
  have := Finset.mem_range.mp hk
  rw [if_pos (by omega), if_pos (by omega), show i + (n - i + k) - n = k by omega]

/-- A running fold of additions is a sum. -/
theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A windowed sum read at an index: the sum over the window's positions. -/
theorem window_at (w0 w1 w2 l0 l1 l2 : ℕ) (s : Arr)
    (h : S2x2048x16.ReduceWindows (![w0, w1, w2] : Fin 3 → ℕ) ![1, 1, 1] ![l0, l1, l2] ![0, 0, 0] S2x2048x16)
    (b : Fin 2) (i : Fin 2048) (r : Fin 16) :
    Host.reduceWindowAdd ![w0, w1, w2] ![1, 1, 1] ![l0, l1, l2] ![0, 0, 0] s nil h h_S_ (ix3 b i r)
      = ∑ k0 : Fin w0, ∑ k1 : Fin w1, ∑ k2 : Fin w2,
          if (l0 ≤ (b : ℕ) + k0 ∧ (b : ℕ) + k0 - l0 < 2) ∧ (l1 ≤ (i : ℕ) + k1 ∧ (i : ℕ) + k1 - l1 < 2048)
              ∧ (l2 ≤ (r : ℕ) + k2 ∧ (r : ℕ) + k2 - l2 < 16) then
            s (ix3 (Fin.ofNat 2 (b + k0 - l0)) (Fin.ofNat 2048 (i + k1 - l1)) (Fin.ofNat 16 (r + k2 - l2)))
          else 0 := by
  unfold Host.reduceWindowAdd
  rw [Ideal.hostReduceWindowAdd_def]
  unfold Ideal.hostReduceWindowAdd Host.reduceWindow
  have h0 : (nil : FVec Ideal S_ .f32) (Shape.Idx.first h_S_) = 0 := by
    unfold nil
    pointwise
  simp only [h0]
  rw [foldl_add, zero_add, ← Fin.sum_univ_def]
  refine Eq.trans ?_ (sum_idx3 (n0 := w0) (n1 := w1) (n2 := w2) fun k =>
      if (l0 ≤ (b : ℕ) + k 0 ∧ (b : ℕ) + k 0 - l0 < 2) ∧ (l1 ≤ (i : ℕ) + k 1 ∧ (i : ℕ) + k 1 - l1 < 2048)
          ∧ (l2 ≤ (r : ℕ) + k 2 ∧ (r : ℕ) + k 2 - l2 < 16) then
        s (ix3 (Fin.ofNat 2 (b + k 0 - l0)) (Fin.ofNat 2048 (i + k 1 - l1)) (Fin.ofNat 16 (r + k 2 - l2)))
      else 0)
  refine Fintype.sum_equiv (Shape.rowMajor ⟨3, ![w0, w1, w2]⟩).symm _ _ fun n => ?_
  let k : (⟨3, ![w0, w1, w2]⟩ : Shape).Idx := (Shape.rowMajor ⟨3, ![w0, w1, w2]⟩).symm n
  by_cases hc : (l0 ≤ (b : ℕ) + k 0 ∧ (b : ℕ) + k 0 - l0 < 2) ∧ (l1 ≤ (i : ℕ) + k 1 ∧ (i : ℕ) + k 1 - l1 < 2048)
          ∧ (l2 ≤ (r : ℕ) + k 2 ∧ (r : ℕ) + k 2 - l2 < 16)
  · refine Eq.trans (dif_pos ?_) (Eq.trans ?_ (if_pos hc).symm)
    rotate_left
    · congr 1
      funext a
      refine Fin.ext ?_
      fin_cases a
      · change (b : ℕ) * 1 + k 0 - l0 = (b + k 0 - l0) % 2
        rw [mul_one, Nat.mod_eq_of_lt hc.1.2]
      · change (i : ℕ) * 1 + k 1 - l1 = (i + k 1 - l1) % 2048
        rw [mul_one, Nat.mod_eq_of_lt hc.2.1.2]
      · change (r : ℕ) * 1 + k 2 - l2 = (r + k 2 - l2) % 16
        rw [mul_one, Nat.mod_eq_of_lt hc.2.2.2]
    · intro a
      fin_cases a
      · change l0 ≤ (b : ℕ) * 1 + k 0 ∧ (b : ℕ) * 1 + k 0 - l0 < 2
        rw [mul_one]; exact hc.1
      · change l1 ≤ (i : ℕ) * 1 + k 1 ∧ (i : ℕ) * 1 + k 1 - l1 < 2048
        rw [mul_one]; exact hc.2.1
      · change l2 ≤ (r : ℕ) * 1 + k 2 ∧ (r : ℕ) * 1 + k 2 - l2 < 16
        rw [mul_one]; exact hc.2.2
  · refine Eq.trans (dif_neg fun hin => ?_) (if_neg hc).symm
    have h0 : l0 ≤ (b : ℕ) * 1 + k 0 ∧ (b : ℕ) * 1 + k 0 - l0 < 2 := hin 0
    have h1 : l1 ≤ (i : ℕ) * 1 + k 1 ∧ (i : ℕ) * 1 + k 1 - l1 < 2048 := hin 1
    have h2 : l2 ≤ (r : ℕ) * 1 + k 2 ∧ (r : ℕ) * 1 + k 2 - l2 < 16 := hin 2
    rw [mul_one] at h0 h1 h2
    exact hc ⟨h0, h1, h2⟩

/-- The running sum along the experts. -/
theorem along_at (s : Arr) (b : Fin 2) (i : Fin 2048) (r : Fin 16) :
    along s (ix3 b i r) = ∑ k : Fin 16, if k ≤ r then s (ix3 b i k) else 0 := by
  unfold along
  rw [window_at]
  refine (Fintype.sum_unique _).trans ((Fintype.sum_unique _).trans ?_)
  have hw := sum_window (fun n => s (ix3 b i (Fin.ofNat 16 n))) 15 r (by omega)
  refine Eq.trans (Finset.sum_congr rfl fun k _ => ?_) (hw.trans (Finset.sum_congr rfl fun k _ => ?_))
  · refine if_congr ?_ ?_ rfl
    · simp; omega
    · congr 1
      refine congrArg₂ (fun b i => ix3 b i (Fin.ofNat 16 (r + k - 15))) (Fin.ext ?_) (Fin.ext ?_) <;> simp
      <;> omega
  · refine if_congr Fin.le_def.symm ?_ rfl
    rw [Fin.ofNat_val_eq_self]

/-- The running sum along the tokens. -/
theorem down_at (s : Arr) (b : Fin 2) (i : Fin 2048) (r : Fin 16) :
    down s (ix3 b i r) = ∑ k : Fin 2048, if k ≤ i then s (ix3 b k r) else 0 := by
  unfold down
  rw [window_at]
  refine (Fintype.sum_unique _).trans ?_
  have hw := sum_window (fun n => s (ix3 b (Fin.ofNat 2048 n) r)) 2047 i (by omega)
  refine Eq.trans (Finset.sum_congr rfl fun k _ => ?_) (hw.trans (Finset.sum_congr rfl fun k _ => ?_))
  · refine (Fintype.sum_unique _).trans (if_congr ?_ ?_ rfl)
    · simp; omega
    · congr 1
      refine congrArg₂ (fun b r => ix3 b (Fin.ofNat 2048 (i + k - 2047)) r) (Fin.ext ?_) (Fin.ext ?_) <;> simp
      <;> omega
  · refine if_congr Fin.le_def.symm ?_ rfl
    rw [Fin.ofNat_val_eq_self]

end Cert.Moe.Ref

end
-- ==== Proof.RefCut.lean ====
module

public import proofs.«01_k».proof.Proof.RefCum

@[expose] public section

set_option maxRecDepth 16384

/-! # How many experts a token chooses -/

noncomputable section

namespace Cert.Moe.Ref

open Idealize.ShloMosaic Idealize.ShloMosaic.TcCoe Idealize.SL.Sem Cert.ReferenceIdeal Cert.ReferenceIdeal.Facts₀ Cert.ReferenceIdeal.Facts

/-- A value with its position. -/
abbrev Pair := EReal × BitVec 32

/-- A pair is at least as good as another: of a larger value, or of the same value and no later. -/
def AtLeast (a b : Pair) : Prop := b.1 < a.1 ∨ (a.1 = b.1 ∧ a.2.toInt ≤ b.2.toInt)

/-- A pair is at least itself. -/
theorem AtLeast.refl (a : Pair) : AtLeast a a := Or.inr ⟨rfl, le_rfl⟩

/-- Being at least is transitive. -/
theorem AtLeast.trans {a b c : Pair} (h : AtLeast a b) (h' : AtLeast b c) : AtLeast a c := by
  rcases h with h | ⟨h, h2⟩ <;> rcases h' with h' | ⟨h', h3⟩
  · exact Or.inl (h'.trans h)
  · exact Or.inl (h' ▸ h)
  · exact Or.inl (h ▸ h')
  · exact Or.inr ⟨h.trans h', h2.trans h3⟩

/-- The reducer as a function of pairs. -/
def better (a b : Pair) : Pair := reducer_argmax_f32_i32 (F := Ideal) a b

/-- The reducer keeps one of its two pairs, and the kept pair is at least as good as both. -/
theorem better_spec (a b : Pair) : (better a b = a ∨ better a b = b) ∧ AtLeast (better a b) a ∧ AtLeast (better a b) b := by
  obtain ⟨a1, a2⟩ := a
  obtain ⟨b1, b2⟩ := b
  have hs : IntOp.cmpi .slt a2 b2 = BitVec.ofBool (decide (a2.toInt < b2.toInt)) := by
    unfold IntOp.cmpi
    congr 1
  have e : better (a1, a2) (b1, b2) = (if b1 < a1 then a1 else b1,
      if b1 < a1 ∨ (a1 = b1 ∧ a2.toInt < b2.toInt) then a2 else b2) := by
    unfold better reducer_argmax_f32_i32
    simp only [hs]
    simp only [Ideal.cmpf_def, Ideal.cmp]
    by_cases h1 : b1 < a1 <;> by_cases h2 : a1 = b1 <;> by_cases h3 : a2.toInt < b2.toInt <;>
      simp [h1, h2, h3, Scalar.select, IntOp.ori, IntOp.andi]
  rw [e]
  rcases lt_trichotomy a1 b1 with h | h | h
  · rw [if_neg (not_lt.mpr h.le), if_neg (by rintro (h' | ⟨h', -⟩); exacts [lt_asymm h h', absurd h' h.ne])]
    exact ⟨Or.inr rfl, Or.inl h, AtLeast.refl _⟩
  · subst h
    by_cases h3 : a2.toInt < b2.toInt
    · rw [if_neg (lt_irrefl a1), if_pos (Or.inr ⟨rfl, h3⟩)]
      exact ⟨Or.inl rfl, AtLeast.refl _, Or.inr ⟨rfl, h3.le⟩⟩
    · rw [if_neg (lt_irrefl a1), if_neg (fun h' => h'.elim (lt_irrefl a1) fun h' => h3 h'.2)]
      exact ⟨Or.inr rfl, Or.inr ⟨rfl, not_lt.mp h3⟩, AtLeast.refl _⟩
  · rw [if_pos h, if_pos (Or.inl h)]
    exact ⟨Or.inl rfl, AtLeast.refl _, Or.inl h⟩

/-- The fold of the reducer over a list keeps the start or an entry, and is at least as good as all of them. -/
theorem fold_better (l : List Pair) (a : Pair) :
    (l.foldl better a = a ∨ l.foldl better a ∈ l) ∧ AtLeast (l.foldl better a) a ∧ ∀ e ∈ l, AtLeast (l.foldl better a) e := by
  induction l generalizing a with
  | nil => exact ⟨Or.inl rfl, AtLeast.refl _, fun e he => absurd he List.not_mem_nil⟩
  | cons b l ih =>
    obtain ⟨h1, h2, h3⟩ := ih (better a b)
    obtain ⟨g1, g2, g3⟩ := better_spec a b
    rw [List.foldl_cons]
    refine ⟨?_, h2.trans g2, fun e he => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.mp he with rfl | he
      · exact h2.trans g3
      · exact h3 e he

/-- The pairs the search for the first rank runs over: the ranks of the token. -/
theorem mem_fiber (x : Arr) (y : IVec S2x2048x16 32) (b : Fin 2) (i : Fin 2048) (p : Pair) :
    p ∈ Host.argReduceFiber x y reducesTo_S2x2048x16_S2x2048_d2 (ix2 b i) ↔ ∃ r : Fin 16, p = (x (ix3 b i r), y (ix3 b i r)) := by
  unfold Host.argReduceFiber
  rw [List.mem_map]
  constructor
  · rintro ⟨n, hn, rfl⟩
    rw [List.mem_filter, decide_eq_true_iff] at hn
    obtain ⟨r, hr⟩ := (Shape.ReducesTo.fiber_r3_a2 _ _ _).mp hn.2
    exact ⟨r, by rw [← hr]; rfl⟩
  · rintro ⟨r, rfl⟩
    refine ⟨S2x2048x16.rowMajor (ix3 b i r), ?_, by rw [Equiv.symm_apply_apply]⟩
    rw [List.mem_filter, decide_eq_true_iff, Equiv.symm_apply_apply]
    exact ⟨List.mem_finRange _, (Shape.ReducesTo.fiber_r3_a2 _ _ _).mpr ⟨r, rfl⟩⟩

variable {c : IVec S2x2048x16 1} {Q : Fin 2 → Fin 2048 → Fin 16 → Prop} [∀ b i r, Decidable (Q b i r)]

/-- The first rank of a token whose bit is set, where there is one. -/
theorem first_at (hc : ∀ b i r, c (ix3 b i r) = BitVec.ofBool (decide (Q b i r))) (b : Fin 2) (i : Fin 2048) :
    ∃ f : Fin 16, first c (ix2 b i) = BitVec.ofNat 32 f ∧ ((∃ r, Q b i r) → Q b i f ∧ ∀ g < f, ¬ Q b i g) := by
  have hu : ∀ r : Fin 16, (uitofp (F := Ideal) .f32 c (ix3 b i r) : EReal) = ((if Q b i r then 1 else 0 : ℝ) : EReal) := by
    intro r
    pointwise
    rw [hc]
    exact Kernel.uitofp_ofBool _
  have hi : ∀ r : Fin 16, iotaInDim S2x2048x16 32 2 (ix3 b i r) = BitVec.ofNat 32 r := fun r => rfl
  unfold first
  rw [Ideal.argReduce_eq_reduce2, Host.reduce2_eq_foldl_fiber]
  obtain ⟨h1, h2, h3⟩ := fold_better (Host.argReduceFiber (uitofp (F := Ideal) .f32 c) (iotaInDim S2x2048x16 32 2)
    reducesTo_S2x2048x16_S2x2048_d2 (ix2 b i)) (⊥, 0#32)
  set acc := (Host.argReduceFiber (uitofp (F := Ideal) .f32 c) (iotaInDim S2x2048x16 32 2)
    reducesTo_S2x2048x16_S2x2048_d2 (ix2 b i)).foldl better (⊥, 0#32) with hacc
  have h3' : ∀ r : Fin 16, AtLeast acc (((if Q b i r then 1 else 0 : ℝ) : EReal), BitVec.ofNat 32 r) := fun r =>
    h3 _ ((mem_fiber _ _ b i _).mpr ⟨r, by rw [hu, hi]⟩)
  obtain ⟨f, hf⟩ : ∃ f : Fin 16, acc = (((if Q b i f then 1 else 0 : ℝ) : EReal), BitVec.ofNat 32 f) := by
    rcases h1 with h1 | h1
    · exfalso
      have := h3' 0
      rw [h1] at this
      rcases this with h | ⟨h, -⟩
      · exact not_lt_bot h
      · exact EReal.coe_ne_bot _ h.symm
    · obtain ⟨f, hf⟩ := (mem_fiber _ _ b i _).mp h1
      exact ⟨f, by rw [hf, hu, hi]⟩
  refine ⟨f, congrArg Prod.snd hf, fun ⟨r, hr⟩ => ?_⟩
  rw [hf] at h3'
  have hQ : Q b i f := by
    by_contra hn
    have := h3' r
    rw [if_neg hn, if_pos hr] at this
    rcases this with h | ⟨h, -⟩
    · have h : (1 : ℝ) < 0 := EReal.coe_lt_coe_iff.mp h
      linarith
    · have h : (0 : ℝ) = 1 := EReal.coe_eq_coe_iff.mp h
      linarith
  refine ⟨hQ, fun g hg hn => ?_⟩
  have := h3' g
  rw [if_pos hQ, if_pos hn] at this
  rcases this with h | ⟨-, h⟩
  · exact lt_irrefl _ h
  · simp only [Kernel.toInt_small _ (show (f : ℕ) < 2 ^ 31 by omega), Kernel.toInt_small _ (show (g : ℕ) < 2 ^ 31 by omega)] at h
    have := Fin.lt_def.mp hg
    omega

/-- The disjunction of sixteen bits. -/
theorem fold_ori (P : Fin 16 → Prop) [∀ r, Decidable (P r)] (s : Finset (Fin 16)) :
    Finset.fold IntOp.ori 0#1 (fun r => BitVec.ofBool (decide (P r))) s = BitVec.ofBool (decide (∃ r ∈ s, P r)) := by
  induction s using Finset.induction_on with
  | empty => simp
  | insert a s ha ih =>
    rw [Finset.fold_insert ha, ih]
    by_cases h : P a <;> by_cases h' : ∃ r ∈ s, P r <;> simp [h, h', IntOp.ori]

/-- A rank plus one, as words. -/
theorem last_word : ∀ f : Fin 16, IntOp.addi (BitVec.ofNat 32 f) 1#32 = BitVec.ofNat 32 (f + 1) := by decide

/-- The number of ranks up to the first whose bit is set, or all sixteen. -/
theorem many_at (hc : ∀ b i r, c (ix3 b i r) = BitVec.ofBool (decide (Q b i r))) (b : Fin 2) (i : Fin 2048) :
    ∃ k : ℕ, many c (ix2 b i) = BitVec.ofNat 32 k ∧
      ((∃ f : Fin 16, k = f + 1 ∧ Q b i f ∧ ∀ g < f, ¬ Q b i g) ∨ (k = 16 ∧ ∀ g, ¬ Q b i g)) := by
  obtain ⟨f, hf, hQ⟩ := first_at hc b i
  pointwise [many]
  simp only [hc]
  rw [hf, fold_ori]
  by_cases h : ∃ r, Q b i r
  · refine ⟨f + 1, ?_, Or.inl ⟨f, rfl, hQ h⟩⟩
    rw [last_word, decide_eq_true (p := ∃ r ∈ Finset.univ, Q b i r) (by simpa using h)]
    rfl
  · refine ⟨16, ?_, Or.inr ⟨rfl, fun g hg => h ⟨g, hg⟩⟩⟩
    rw [decide_eq_false (p := ∃ r ∈ Finset.univ, Q b i r) (by simpa using h)]
    rfl

end Cert.Moe.Ref

end
-- ==== Proof.RefSelect.lean ====
module

public import proofs.«01_k».proof.Proof.RefTake
public import proofs.«01_k».proof.Proof.RefSort
public import proofs.«01_k».proof.Proof.RefCut

@[expose] public section

set_option maxRecDepth 16384

/-! # The chosen experts and their weights

What the reference's mask and weight stages hold, over positive real gates. -/

noncomputable section

namespace Cert.Moe.Ref

open Idealize.ShloMosaic Idealize.ShloMosaic.TcCoe Idealize.SL.Sem Cert.ReferenceIdeal Cert.ReferenceIdeal.Facts₀ Cert.ReferenceIdeal.Facts

/-- A real number at each batch row, token and expert. -/
abbrev Tab := Fin 2 → Fin 2048 → Fin 16 → ℝ

/-- The expert at each rank of a token. -/
def rk (p : Tab) (b : Fin 2) (i : Fin 2048) : Fin 16 → Fin 16 := sortedFrom (sooner (p b i))

/-- One expert comes sooner than another when its gate is larger. -/
theorem sooner_iff (p : Fin 16 → ℝ) (k k' : Fin 16) : sooner p k k' = true ↔ p k' < p k := by simp [sooner]

/-- Real entries taken along an order. -/
theorem take_real {A : Arr} {f : Tab} (h : Holds A f) {o : IVec S2x2048x16 32} {σ : Fin 2 → Fin 2048 → Fin 16 → Fin 16}
    (ho : ∀ b i r, o (ix3 b i r) = BitVec.ofNat 32 (σ b i r)) : Holds (take A o) fun b i r => f b i (σ b i r) :=
  fun b i r => (take_at A ho b i r).trans (h b i _)

/-- A real number or zero, by a condition, inside the extended reals. -/
theorem coe_ite (P : Prop) [Decidable P] (a : ℝ) : (if P then ((a : ℝ) : EReal) else 0) = ((if P then a else 0 : ℝ) : EReal) := by
  by_cases h : P <;> simp [h]

/-- The running sums over the ranks, of real entries. -/
theorem along_real {A : Arr} {f : Tab} (h : Holds A f) : Holds (along A) fun b i r => ∑ k, if k ≤ r then f b i k else 0 := by
  intro b i r
  rw [along_at, ← coe_sum]
  exact Finset.sum_congr rfl fun k _ => by rw [h, coe_ite]

/-- The running sums over the tokens, of real entries. -/
theorem down_real {A : Arr} {f : Tab} (h : Holds A f) : Holds (down A) fun b i e => ∑ k, if k ≤ i then f b k e else 0 := by
  intro b i e
  rw [down_at, ← coe_sum]
  exact Finset.sum_congr rfl fun k _ => by rw [h, coe_ite]

/-- Whether the running sum has reached the threshold at a rank. -/
theorem reached_at {A : Arr} {f : Tab} (h : Holds A f) (b : Fin 2) (i : Fin 2048) (r : Fin 16) :
    reached A (ix3 b i r) = BitVec.ofBool (decide (c8 ≤ ∑ k, if k ≤ r then f b i k else 0)) := by
  pointwise [reached]
  rw [along_real h, all_at, ofBits_c8]
  simp [Ideal.cmpf_def, Ideal.cmp]

/-- The ranks below a token's count are one, the others zero. -/
theorem chosen_at {n : IVec S2x2048 32} {k : ℕ} (b : Fin 2) (i : Fin 2048) (hn : n (ix2 b i) = BitVec.ofNat 32 k) (hk : k ≤ 16)
    (r : Fin 16) : chosen n (ix3 b i r) = ((if (r : ℕ) < k then 1 else 0 : ℝ) : EReal) := by
  pointwise [chosen]
  rw [spread_at, hn]
  refine Eq.trans (congrArg _ (Kernel.slt_small r k (by omega) (by omega))) (Kernel.uitofp_ofBool _)

variable {g : Arr} {p : Tab}

/-- The gates by rank. -/
theorem ranked_real (h : Holds g p) : Holds (take g (order g)) fun b i r => p b i (rk p b i r) :=
  take_real h fun b i r => order_at h b i r

/-- One at each rank whose expert is selected. -/
theorem chosen_real (h : Holds g p) (hp : ∀ b i e, 0 < p b i e) :
    Holds (chosen (many (reached (take g (order g))))) fun b i r => sel (p b i) (rk p b i r) := by
  intro b i r
  obtain ⟨k, hn, hk⟩ := many_at (fun b i r => reached_at (ranked_real h) b i r) b i
  rw [chosen_at b i hn (by rcases hk with ⟨f, rfl, -⟩ | ⟨rfl, -⟩ <;> omega)]
  have := cut_iff (q := fun r => p b i (rk p b i r)) (fun r => (hp b i _).le) c8_pos (k := k) (by
    rcases hk with ⟨f, h1, h2, h3⟩ | ⟨h1, h2⟩
    · exact Or.inl ⟨f, h1, h2, fun g hg => not_le.mp (h3 g hg)⟩
    · exact Or.inr ⟨h1, fun g => not_le.mp (h2 g)⟩) r
  unfold sel Sel rk
  beta_reduce
  rw [before_sorted (sooner_iff (p b i))]
  exact congrArg _ (if_congr this rfl rfl)

/-- The weights by rank. -/
theorem shares_real (h : Holds g p) (hp : ∀ b i e, 0 < p b i e) :
    Holds (shares (take g (order g)) (chosen (many (reached (take g (order g)))))) fun b i r => wt (p b i) (rk p b i r) := by
  have hr := ranked_real h
  have hs := chosen_real h hp
  intro b i r
  have hm : Holds (mulf (take g (order g)) (chosen (many (reached (take g (order g)))))) fun b i r =>
      p b i (rk p b i r) * sel (p b i) (rk p b i r) := by
    intro b i r
    pointwise
    rw [hr, hs, ← EReal.coe_mul]
  have hsum : (∑ r, p b i (rk p b i r) * sel (p b i) (rk p b i r)) = selSum (p b i) :=
    sum_sorted (sooner (p b i)) fun e => p b i e * sel (p b i) e
  pointwise [shares]
  rw [spread_at, total_real hm, hr, hs, hsum]
  refine (congrArg (· * _) (div_coe _ _ (selSum_pos (hp b i)).ne')).trans ?_
  rw [← EReal.coe_mul]
  rfl

/-- The rank of each expert of a token. -/
def inv (p : Tab) (b : Fin 2) (i : Fin 2048) : Fin 16 → Fin 16 := sortedFrom fun k k' => decide (rk p b i k < rk p b i k')

/-- The expert at an expert's own rank is that expert. -/
theorem rk_inv (p : Tab) (b : Fin 2) (i : Fin 2048) (e : Fin 16) : rk p b i (inv p b i e) = e :=
  inverse_sorted (sortedFrom_injective _) (fun k k' => decide_eq_true_iff) e

/-- A table by rank, taken along the inverse order, is the table by expert. -/
theorem unranked {A : Arr} {f : Tab} (h : Holds g p) (hA : Holds A fun b i r => f b i (rk p b i r)) :
    Holds (take A (ranks (order g))) f := by
  intro b i e
  rw [take_real hA (σ := inv p) fun b i r => ranks_at (σ := rk p) (fun b i r => order_at h b i r) b i r]
  beta_reduce
  rw [rk_inv]

variable {X : FVec Ideal S2x2048x1024 .f32} {W : FVec Ideal S1024x16 .f32}

/-- The mask over the experts. -/
theorem mask_real (h : Holds (gatesOf X W) p) (hp : ∀ b i e, 0 < p b i e) : Holds (mask X W) fun b i e => sel (p b i) e :=
  unranked h (chosen_real h hp)

/-- The weights over the experts. -/
theorem weight_real (h : Holds (gatesOf X W) p) (hp : ∀ b i e, 0 < p b i e) : Holds (weight X W) fun b i e => wt (p b i) e :=
  unranked h (shares_real h hp)

end Cert.Moe.Ref

end
-- ==== Proof.RefMask.lean ====
module

public import proofs.«01_k».proof.Proof.RefSelect

@[expose] public section

set_option maxRecDepth 16384

/-! # Positions, dispatch and combine

What the reference's capacity stages hold, over the mask and the weights. -/

noncomputable section

namespace Cert.Moe

/-- A selection is zero or one. -/
theorem sel_cases (p : Fin 16 → ℝ) (e : Fin 16) : sel p e = 0 ∨ sel p e = 1 := by
  unfold sel; split_ifs <;> simp

variable (q : Fin 2 → ℕ → Fin 16 → ℝ)

/-- The mask is zero, or it is one and the expert is selected. -/
theorem msk_cases (b : Fin 2) (i : ℕ) (e : Fin 16) : msk q b i e = 0 ∨ (msk q b i e = 1 ∧ sel (q b i) e = 1) := by
  unfold msk
  rcases sel_cases (q b i) e with h | h <;> rw [h] <;> split_ifs <;> simp

/-- How many of the first tokens select an expert is a natural number, at most the tokens there are. -/
theorem cnt_nat (b : Fin 2) (n : ℕ) (e : Fin 16) : ∃ N : ℕ, cnt q b n e = N ∧ N ≤ n := by
  induction n with
  | zero => exact ⟨0, by simp [cnt], le_rfl⟩
  | succ n ih =>
    obtain ⟨N, h, hN⟩ := ih
    have hs : cnt q b (n + 1) e = cnt q b n e + sel (q b n) e := Finset.sum_range_succ _ _
    rcases sel_cases (q b n) e with h' | h'
    · exact ⟨N, by rw [hs, h', h, add_zero], by omega⟩
    · exact ⟨N + 1, by rw [hs, h', h]; push_cast; rfl, by omega⟩

/-- The place of a token is a natural number. -/
theorem place_nat (b : Fin 2) (i : ℕ) : ∃ P : ℕ, place q b i = P ∧ P ≤ 16 * i := by
  have h : ∀ e, ∃ N : ℕ, cnt q b i e * msk q b i e = N ∧ N ≤ i := by
    intro e
    obtain ⟨N, hN, hN'⟩ := cnt_nat q b i e
    rcases msk_cases q b i e with h | ⟨h, -⟩
    · exact ⟨0, by rw [h]; simp, by omega⟩
    · exact ⟨N, by rw [h, hN, mul_one], hN'⟩
  choose N hN hN' using h
  refine ⟨∑ e, N e, ?_, ?_⟩
  · unfold place
    push_cast
    exact Finset.sum_congr rfl fun e _ => hN e
  · exact (Finset.sum_le_sum fun e _ => hN' e).trans (by simp)

/-- A kept choice has positive weight. -/
theorem pos_iff {q : Fin 2 → ℕ → Fin 16 → ℝ} (hq : ∀ b i e, 0 < q b i e) (b : Fin 2) (i : ℕ) (e : Fin 16) :
    0 < msk q b i e * wt (q b i) e ↔ 0 < msk q b i e := by
  rcases msk_cases q b i e with h | ⟨h, h'⟩
  · rw [h]; simp
  · rw [h]; simpa using (wt_pos_iff (hq b i) e).mpr h'

end Cert.Moe

namespace Cert.Moe.Ref

open Idealize.ShloMosaic Idealize.ShloMosaic.TcCoe Idealize.SL.Sem Cert.ReferenceIdeal Cert.ReferenceIdeal.Facts₀ Cert.ReferenceIdeal.Facts

/-- A natural number within the range of words, converted to one. -/
theorem fptosi_nat (P : ℕ) (h : P < 2 ^ 31) : Ideal.fptosi 32 ((P : ℝ) : EReal) = BitVec.ofNat 32 P := by
  have e : Ideal.toIntClamped (-(2 ^ (32 - 1) : ℕ)) ((2 ^ (32 - 1) : ℕ) - 1) ((P : ℝ) : EReal) = (P : ℤ) := by
    change max _ (min _ (if 0 ≤ (P : ℝ) then ⌊(P : ℝ)⌋ else ⌈(P : ℝ)⌉)) = _
    rw [if_pos (Nat.cast_nonneg P), Int.floor_natCast]
    norm_num at h ⊢
    omega
  unfold Ideal.fptosi
  rw [e, BitVec.ofInt_natCast]

variable {q : Fin 2 → ℕ → Fin 16 → ℝ} {A : Arr} (hA : Holds A fun b i e => sel (q b i) e)

include hA

/-- The position of a token among those of its expert. -/
theorem queue_real : Holds (queue A) fun b i e => cnt q b i e * sel (q b i) e := by
  intro b i e
  have h : (∑ k : Fin 2048, if k ≤ i then sel (q b k) e else 0) = cnt q b i e + sel (q b i) e := by
    have := sum_lt_range (n := 2048) (fun k => sel (q b k) e) (i + 1) (by omega)
    rw [Finset.sum_range_succ] at this
    rw [show cnt q b i e = ∑ k ∈ Finset.range i, sel (q b k) e from rfl, ← this]
    exact Finset.sum_congr rfl fun k _ => if_congr (by rw [Fin.le_def]; omega) rfl rfl
  pointwise [queue]
  rw [down_real hA, hA]
  beta_reduce
  rw [h, ← EReal.coe_sub, ← EReal.coe_mul, add_sub_cancel_right]

/-- One where a token is kept. -/
theorem kept_real : Holds (kept A) fun b i e => msk q b i e := by
  intro b i e
  pointwise [kept]
  rw [queue_real hA, hA, all_at, ofBits_cap]
  beta_reduce
  simp only [EReal.coe_lt_coe_iff]
  rw [Kernel.uitofp_ofBool, ← EReal.coe_mul]
  unfold msk
  rcases sel_cases (q b i) e with h | h <;> rw [h] <;> simp

/-- The place of a token as a word. -/
theorem slot_at (b : Fin 2) (i : Fin 2048) : ∃ P : ℕ, Moe.place q b i = P ∧ P < 2 ^ 31 ∧ slot A (ix2 b i) = BitVec.ofNat 32 P := by
  obtain ⟨P, hP, hP'⟩ := place_nat q b i
  refine ⟨P, hP, by omega, ?_⟩
  have hm : Holds (mulf (queue A) (kept A)) fun b i e => cnt q b i e * msk q b i e := by
    intro b i e
    pointwise
    rw [queue_real hA, kept_real hA, ← EReal.coe_mul]
    rcases msk_cases q b i e with h | ⟨h, h'⟩
    · simp [h]
    · simp [h, h']
  pointwise [slot]
  rw [total_real hm]
  beta_reduce
  rw [show (∑ e, cnt q b i e * msk q b i e) = (P : ℝ) from hP]
  exact fptosi_nat P (by omega)

/-- The dispatch array over expert and slot. -/
theorem dispatch_real (hq : ∀ b i e, 0 < q b i e) (b : Fin 2) (i : Fin 2048) (e : Fin 16) (c : Fin 160) :
    dispatch A (ix4 b i e c) = ((Moe.disp q b i e c : ℝ) : EReal) := by
  obtain ⟨P, hP, hP31, hs⟩ := slot_at hA b i
  pointwise [dispatch, wide, valid, hot, column]
  rw [hs, kept_real hA, all_at, Ideal.ofBits_zero, Kernel.eq_small P c hP31 (by omega),
    show IntOp.cmpi .slt (BitVec.ofNat 32 P) 160#32 = BitVec.ofBool (decide (P < 160)) from Kernel.slt_small P 160 hP31 (by omega)]
  beta_reduce
  simp only [← EReal.coe_zero, EReal.coe_lt_coe_iff]
  rw [andi_ofBool, Kernel.uitofp_ofBool, Kernel.uitofp_ofBool, ← EReal.coe_mul]
  congr 1
  unfold Moe.disp
  rw [hP]
  have hc : ((c : ℕ) : ℝ) = (P : ℝ) ↔ P = c := by rw [Nat.cast_inj]; exact eq_comm
  simp only [hc, pos_iff hq]
  by_cases h : P = c
  · subst h
    by_cases h' : 0 < msk q b i e <;> simp [h', c.isLt]
  · simp [h]

/-- The combine array over expert and slot. -/
theorem combine_real (hq : ∀ b i e, 0 < q b i e) {B : Arr} (hB : Holds B fun b i e => wt (q b i) e)
    (b : Fin 2) (i : Fin 2048) (e : Fin 16) (c : Fin 160) :
    mulf (dispatch A) (wide B) (ix4 b i e c) = ((Moe.comb q b i e c : ℝ) : EReal) := by
  pointwise [wide]
  rw [dispatch_real hA hq, hB, ← EReal.coe_mul]
  congr 1
  unfold Moe.disp Moe.comb
  simp only [pos_iff hq]
  by_cases h : ((c : ℕ) : ℝ) = Moe.place q b i
  · rcases msk_cases q b i e with h' | ⟨h', -⟩ <;> simp [h, h']
  · simp [h]

end Cert.Moe.Ref

end
-- ==== Proof.RefOut.lean ====
module

public import proofs.«01_k».proof.Proof.RefMask

@[expose] public section

set_option maxRecDepth 16384

/-! # The reference's three results -/

noncomputable section

namespace Cert.Moe.Ref

open Idealize.ShloMosaic Idealize.ShloMosaic.TcCoe Idealize.SL.Sem Cert.ReferenceIdeal Cert.ReferenceIdeal.Facts₀ Cert.ReferenceIdeal.Facts

/-- An array over expert and slot, flattened. -/
theorem flat_at (x : FVec Ideal S2x2048x16x160 .f32) (b : Fin 2) (i : Fin 2048) (l : Fin 2560) :
    shapeCast S2x2048x2560 x shapeCasts_S2x2048x16x160_S2x2048x2560 (ix3 b i l)
      = x (ix4 b i (Fin.ofNat 16 (l / 160)) (Fin.ofNat 160 (l % 160))) := by
  pointwise
  refine congrArg₂ (fun e c => x (ix4 b i e c)) (Fin.ext ?_) (Fin.ext ?_)
  · exact (Nat.mod_eq_of_lt (by omega)).symm
  · exact (Nat.mod_eq_of_lt (by omega)).symm

variable {q : Fin 2 → ℕ → Fin 16 → ℝ} {X : FVec Ideal S2x2048x1024 .f32} {W : FVec Ideal S1024x16 .f32}
  (hg : Holds (gatesOf X W) fun b i e => q b i e) (hq : ∀ b i e, 0 < q b i e)

include hg hq

/-- The reference's mask before the capacity is the selection. -/
theorem mask_sel : Holds (mask X W) fun b i e => sel (q b i) e := mask_real hg fun b i e => hq b i e

/-- The first result. -/
theorem disp_real (b : Fin 2) (i : Fin 2048) (l : Fin 2560) :
    disp X W (ix3 b i l) = ((Moe.disp q b i (Fin.ofNat 16 ((l : ℕ) / 160)) (l % 160) : ℝ) : EReal) := by
  unfold disp
  rw [flat_at, dispatch_real (mask_sel hg hq) hq]
  simp

/-- The second result. -/
theorem comb_real (b : Fin 2) (i : Fin 2048) (l : Fin 2560) :
    comb X W (ix3 b i l) = ((Moe.comb q b i (Fin.ofNat 16 ((l : ℕ) / 160)) (l % 160) : ℝ) : EReal) := by
  unfold comb
  rw [flat_at, combine_real (mask_sel hg hq) hq (weight_real hg fun b i e => hq b i e)]
  simp

omit hg hq in
/-- The mean over the tokens of real numbers. -/
theorem mean_real {A : Arr} {f : Fin 2 → ℕ → Fin 16 → ℝ} (h : Holds A fun b i e => f b i e) (b : Fin 2) (e : Fin 16) :
    mean A (ix2 b e) = (((∑ i ∈ Finset.range 2048, f b i e) / 2048 : ℝ) : EReal) := by
  pointwise [mean]
  rw [Finset.sum_congr rfl fun i _ => h b i e, coe_sum, ofBits_2048, div_coe _ _ (by norm_num),
    Fin.sum_univ_eq_sum_range (fun i => f b i e) 2048]

/-- The third result. -/
theorem loss_real (j : S1x1.Idx) : loss X W j = ((Moe.loss q : ℝ) : EReal) := by
  have hb : balance (gatesOf X W) (kept (mask X W)) ix0 = ((Moe.loss q : ℝ) : EReal) := by
    pointwise [balance]
    have e : ∀ b e, mean (gatesOf X W) (ix2 b e) * mean (kept (mask X W)) (ix2 b e)
        = ((gsum q b 2048 e / 2048 * (msum q b 2048 e / 2048) : ℝ) : EReal) := fun b e => by
      rw [mean_real hg, mean_real (kept_real (mask_sel hg hq)), ← EReal.coe_mul]; rfl
    simp only [e, coe_sum]
    rw [ofBits_32, ofBits_256, div_coe _ _ (by norm_num), ← EReal.coe_mul, EReal.coe_eq_coe_iff]
    unfold Moe.loss part
    rw [Fin.sum_univ_two, add_div, add_mul, add_mul]
    simp only [Finset.sum_div, Finset.sum_mul]
    exact congrArg₂ (· + ·) (Finset.sum_congr rfl fun e _ => by ring) (Finset.sum_congr rfl fun e _ => by ring)
  rw [eq_ix2 j]
  pointwise [loss]
  rw [hb, zero_mul, add_zero]

end Cert.Moe.Ref

end
-- ==== Proof.Finite.lean ====
module

public import proofs.«01_k».proof.Proof.Gen.Pre_finite_inputs
public import proofs.«01_k».proof.Defs
public import Idealize.ShloMosaic.Lib.ReduceAll
public import proofs.«01_k».proof.Proof.Arith

@[expose] public section

set_option maxRecDepth 16384

/-! # What the precondition gives -/

noncomputable section

namespace Cert.Moe

open Idealize.ShloMosaic Idealize.ShloMosaic.TcCoe Idealize.SL.Sem

/-- A number whose absolute value is below infinity is real. -/
theorem real_of_abs (x : EReal) (h : max x (-x) < Ideal.ofBits .f32 0x7F800000#32) : x = ((x.toReal : ℝ) : EReal) := by
  have t : Ideal.ofBits .f32 0x7F800000#32 = (⊤ : EReal) := by simp [Ideal.ofBits, Ideal.ieee]
  rw [t] at h
  refine (EReal.coe_toReal (fun e => ?_) fun e => ?_).symm
  · rw [e] at h; simp at h
  · rw [e] at h; simp at h

/-- An ordered comparison whose word is one holds. -/
theorem lt_of_word {x y : EReal} (h : FloatOps.cmpf (F := Ideal) (φ := .f32) .olt x y = 1#1) : x < y := by
  by_contra n
  simp [Ideal.cmpf_def, Ideal.cmp, n] at h

/-- Where the precondition holds, every entry of both arrays is real. -/
theorem finite {X : FVec Ideal Cert.Pre_finite_inputs.S2x2048x1024 .f32} {W : FVec Ideal Cert.Pre_finite_inputs.S1024x16 .f32}
    (h : Cert.Pre_finite_inputs.fn (F := Ideal) X W = fun _ => 1#1) :
    (∀ i, X i = (((X i : EReal).toReal : ℝ) : EReal)) ∧ ∀ i, W i = (((W i : EReal).toReal : ℝ) : EReal) := by
  have e := congrFun h fun a => a.elim0
  dsimp only [Cert.Pre_finite_inputs.fn] at e
  obtain ⟨e1, e2⟩ := IntOp.andi_eq_one.mp e
  have : Subsingleton Cert.Pre_finite_inputs.S_.Idx := ⟨fun a b => by ext i; exact i.elim0⟩
  refine ⟨fun i => ?_, fun i => ?_⟩
  · have f := Host.reduce_andi_all _ _ _ _ _ e1 i
    exact real_of_abs _ (lt_of_word f)
  · have f := Host.reduce_andi_all _ _ _ _ _ e2 i
    exact real_of_abs _ (lt_of_word f)

end Cert.Moe

end
-- ==== Proof.Meet.lean ====
module

public import proofs.«01_k».proof.Proof.KFold
public import proofs.«01_k».proof.Proof.RefOut
public import proofs.«01_k».proof.Proof.Finite

@[expose] public section

set_option maxRecDepth 16384

/-! # The kernel's three arrays are the reference's -/

noncomputable section

namespace Cert.Moe

open Idealize.ShloMosaic Idealize.ShloMosaic.TcCoe Idealize.SL.Sem Cert.KernelIdeal Cert.KernelIdeal.Gen Cert.KernelIdeal.Value Cert.Moe.Kernel

variable {m : (ℓ : Loc nD τ sig) → Buf (Elt Ideal) ℓ} {c : Dev nD}
  {x : Fin 2 → Fin 2048 → Fin 1024 → ℝ} {w : Fin 1024 → Fin 16 → ℝ}
  (hx : ∀ b i k, m ((c : Thread nD τ).loc main_arg0) (ix3 b i k) = ((x b i k : ℝ) : EReal))
  (hw : ∀ k e, m ((c : Thread nD τ).loc main_arg1) (ix2 k e) = ((w k e : ℝ) : EReal))

include hx hw

/-- The reference's gates are those of the specification. -/
theorem gates_pr : Ref.Holds (Ref.gatesOf (m ((c : Thread nD τ).loc main_arg0)) (m ((c : Thread nD τ).loc main_arg1)))
    fun b i e => pr x w b i e := by
  have h := Ref.gates_real (Ref.scores_real hx hw)
  intro b i e
  refine (h b i e).trans ?_
  simp [pr]

/-- The dispatch mask. -/
theorem meet_disp : G5 m c = Ref.disp (m ((c : Thread nD τ).loc main_arg0)) (m ((c : Thread nD τ).loc main_arg1)) := by
  funext j
  rw [eq_ix3 j]
  exact (array_disp hx hw _ _ _).trans (Ref.disp_real (gates_pr hx hw) (pr_pos x w) _ _ _).symm

/-- The combine weights. -/
theorem meet_comb : G6 m c = Ref.comb (m ((c : Thread nD τ).loc main_arg0)) (m ((c : Thread nD τ).loc main_arg1)) := by
  funext j
  rw [eq_ix3 j]
  exact (array_comb hx hw _ _ _).trans (Ref.comb_real (gates_pr hx hw) (pr_pos x w) _ _ _).symm

/-- The loss. -/
theorem meet_loss : G7 m c = Ref.loss (m ((c : Thread nD τ).loc main_arg0)) (m ((c : Thread nD τ).loc main_arg1)) := by
  funext j
  exact (array_loss hx hw j).trans (Ref.loss_real (gates_pr hx hw) (pr_pos x w) j).symm

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite_inputs
public import proofs.«01_k».proof.Proof.Meet
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every semaphore at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
          r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0 :=
  (θ_run Cert.ReferenceIdeal.defs _ _).mono
    (fun r h => ⟨fun c => (h c).2.2.2, sem_eq_zero_of_no_sems (by decide) r.2⟩) (Cert.Moe.Ref.run m g)

/-- On finite inputs the kernel and the reference end with the same three arrays. -/
theorem agree : Cert.algebraic_KernelIdeal_ReferenceIdeal_pre_finite_inputs := by
  intro m g m' g' hpre hm
  have fx := fun c => Cert.Moe.finite (hpre c)
  refine ⟨Cert.KernelIdeal.Value.G5 m, Cert.KernelIdeal.Value.G6 m, Cert.KernelIdeal.Value.G7 m,
    Cert.KernelIdeal.Value.run m g, ?_⟩
  refine (θ_run Cert.ReferenceIdeal.defs _ _).mono (fun r h c => ?_) (Cert.Moe.Ref.run m' g')
  have hx := fun b i k => (fx c).1 (ix3 b i k)
  have hw := fun k e => (fx c).2 (ix2 k e)
  obtain ⟨h0, h1, h2, h3⟩ := h c
  rw [(hm c).1, (hm c).2] at h0 h1 h2
  exact ⟨h0.trans (Cert.Moe.meet_disp hx hw).symm, h1.trans (Cert.Moe.meet_comb hx hw).symm,
    h2.trans (Cert.Moe.meet_loss hx hw).symm, h3⟩

/-- Every claim of the certificate. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    agree⟩

end Cert.Proof

end
